-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_keys [hPre_finite_keys : Cert.Pre_finite_keys.Facts] (m : (ℓ : Loc Cert.KernelIdeal.nD Cert.KernelIdeal.τ Cert.KernelIdeal.sig) → Buf (Elt Ideal) ℓ) : Prop :=
  ∀ c : Dev Cert.KernelIdeal.nD,
    (Cert.Pre_finite_keys.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).1 = (fun _ => 1#1)
    ∧ (Cert.Pre_finite_keys.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.1 = (fun _ => 1#1)
    ∧ (Cert.Pre_finite_keys.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_keys [hPre_finite_keys : Cert.Pre_finite_keys.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_keys.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).1 = (fun _ => 1#1)
    ∧ (Cert.Pre_finite_keys.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.1 = (fun _ => 1#1)
    ∧ (Cert.Pre_finite_keys.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_finite_keys [hKernelIdeal : Cert.KernelIdeal.Facts] [hPre_finite_keys : Cert.Pre_finite_keys.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_keys m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_finite_keys [hReferenceIdeal : Cert.ReferenceIdeal.Facts] [hPre_finite_keys : Cert.Pre_finite_keys.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_keys m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  IdealRules.named_const.Statement Cert.KernelIdeal.κ "score_log2e" .f32 0x3E8293EE#32 (((11863283 * 67108864⁻¹) * (Real.log 2)⁻¹ : ℝ) : EReal)

def algebraic_KernelIdeal_ReferenceIdeal_pre_finite_keys [hKernelIdeal : Cert.KernelIdeal.Facts] [hReferenceIdeal : Cert.ReferenceIdeal.Facts] [hPre_finite_keys : Cert.Pre_finite_keys.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_keys m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v49) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_keys : Cert.Pre_finite_keys.Facts),
    quiescent_Kernel (hKernel := hKernel)
    ∧ quiescent_KernelIdeal (hKernelIdeal := hKernelIdeal)
    ∧ quiescent_KernelIdeal_pre_finite_keys (hKernelIdeal := hKernelIdeal) (hPre_finite_keys := hPre_finite_keys)
    ∧ quiescent_ReferenceIdeal (hReferenceIdeal := hReferenceIdeal)
    ∧ quiescent_ReferenceIdeal_pre_finite_keys (hReferenceIdeal := hReferenceIdeal) (hPre_finite_keys := hPre_finite_keys)
    ∧ preserves_Kernel_KernelIdeal
    ∧ algebraic_KernelIdeal_ReferenceIdeal_pre_finite_keys (hKernelIdeal := hKernelIdeal) (hReferenceIdeal := hReferenceIdeal) (hPre_finite_keys := hPre_finite_keys)
-- ==== Pre_finite_keys.lean ====
abbrev S20x300x16x32 : Shape := ⟨4, ![20, 300, 16, 32]⟩
abbrev S20x2048x16x32 : Shape := ⟨4, ![20, 2048, 16, 32]⟩
abbrev S20x2048x16 : Shape := ⟨3, ![20, 2048, 16]⟩
abbrev S20x300x64 : Shape := ⟨3, ![20, 300, 64]⟩
abbrev S_ : Shape := ⟨0, ![]⟩

class Facts : Prop where
  natLt_8_32 : 8 < 32
  bcast_S_S20x2048x16x32 : S_.BroadcastsInDim S20x2048x16x32 (![] : Fin 0 → Fin S20x2048x16x32.rank)
  bcast_S_S20x300x16x32 : S_.BroadcastsInDim S20x300x16x32 (![] : Fin 0 → Fin S20x300x16x32.rank)
  bcast_S_S20x2048x16 : S_.BroadcastsInDim S20x2048x16 (![] : Fin 0 → Fin S20x2048x16.rank)

variable [Facts]

def fn {F : FTy → Type} [FloatOps F] (main_arg0 : FVec F S20x300x16x32 .bf16) (main_arg1 : IVec S20x2048x16x32 8) (main_arg2 : FVec F S20x2048x16 .f32) (main_arg3 : FVec F S20x2048x16x32 .fp8e4m3) (main_arg4 : FVec F S20x2048x16 .f32) (main_arg5 : IVec S20x300x64 32) : IVec S20x300x16x32 1 × IVec S20x2048x16x32 1 × IVec S20x2048x16 1 :=
  let main_v0 : IVec S20x2048x16x32 32 := (extsi 32 · natLt_8_32) main_arg1
  let main_c : IVec S_ 32 := constantI S_ 32 127#32
  let main_v1 : IVec S20x2048x16x32 32 := broadcastInDim S20x2048x16x32 ![] bcast_S_S20x2048x16x32 main_c
  let main_v2 : IVec S20x2048x16x32 32 := andi main_v0 main_v1
  let main_c_0 : IVec S_ 32 := constantI S_ 32 127#32
  let main_v3 : IVec S20x2048x16x32 32 := broadcastInDim S20x2048x16x32 ![] bcast_S_S20x2048x16x32 main_c_0
  let main_v4 : IVec S20x2048x16x32 1 := cmpi .ne main_v2 main_v3
  let main_v5 : FVec F S20x300x16x32 .bf16 := Host.absf main_arg0
  let main_cst : FVec F S_ .bf16 := constant S_ .bf16 0x7F80#16
  let main_v6 : FVec F S20x300x16x32 .bf16 := broadcastInDim S20x300x16x32 ![] bcast_S_S20x300x16x32 main_cst
  let main_v7 : IVec S20x300x16x32 1 := cmpf .olt main_v5 main_v6
  let main_v8 : FVec F S20x2048x16 .f32 := Host.absf main_arg2
  let main_cst_1 : FVec F S_ .f32 := constant S_ .f32 0x7F800000#32
  let main_v9 : FVec F S20x2048x16 .f32 := broadcastInDim S20x2048x16 ![] bcast_S_S20x2048x16 main_cst_1
  let main_v10 : IVec S20x2048x16 1 := cmpf .olt main_v8 main_v9
  (main_v7, main_v4, main_v10)
-- ==== Kernel.lean ====
abbrev S20x300x16x32 : Shape := ⟨4, ![20, 300, 16, 32]⟩
abbrev S20x2048x16x32 : Shape := ⟨4, ![20, 2048, 16, 32]⟩
abbrev S20x2048x16 : Shape := ⟨3, ![20, 2048, 16]⟩
abbrev S20x300x64 : Shape := ⟨3, ![20, 300, 64]⟩
abbrev S20x16x32x300 : Shape := ⟨4, ![20, 16, 32, 300]⟩
abbrev S20x512x300 : Shape := ⟨3, ![20, 512, 300]⟩
abbrev S20x16x32x2048 : Shape := ⟨4, ![20, 16, 32, 2048]⟩
abbrev S20x512x2048 : Shape := ⟨3, ![20, 512, 2048]⟩
abbrev S20x16x2048 : Shape := ⟨3, ![20, 16, 2048]⟩
abbrev S20x64x300 : Shape := ⟨3, ![20, 64, 300]⟩
abbrev S20x300x512 : Shape := ⟨3, ![20, 300, 512]⟩
abbrev S1x128x300 : Shape := ⟨3, ![1, 128, 300]⟩
abbrev S1x128x2048 : Shape := ⟨3, ![1, 128, 2048]⟩
abbrev S1x16x2048 : Shape := ⟨3, ![1, 16, 2048]⟩
abbrev S1x64x300 : Shape := ⟨3, ![1, 64, 300]⟩
abbrev S1x300x128 : Shape := ⟨3, ![1, 300, 128]⟩
abbrev S2048x300 : Shape := ⟨2, ![2048, 300]⟩
abbrev S64x300 : Shape := ⟨2, ![64, 300]⟩
abbrev S300 : Shape := ⟨1, ![300]⟩
abbrev S1x300 : Shape := ⟨2, ![1, 300]⟩
abbrev S1x32x1 : Shape := ⟨3, ![1, 32, 1]⟩
abbrev S64x1x300 : Shape := ⟨3, ![64, 1, 300]⟩
abbrev S64x32x300 : Shape := ⟨3, ![64, 32, 300]⟩
abbrev S1x1x2048 : Shape := ⟨3, ![1, 1, 2048]⟩
abbrev S1x2048 : Shape := ⟨2, ![1, 2048]⟩
abbrev S1x32x2048 : Shape := ⟨3, ![1, 32, 2048]⟩
abbrev S32x2048 : Shape := ⟨2, ![32, 2048]⟩
abbrev S1x32x300 : Shape := ⟨3, ![1, 32, 300]⟩
abbrev S32x300 : Shape := ⟨2, ![32, 300]⟩
abbrev S128x300 : Shape := ⟨2, ![128, 300]⟩
abbrev S300x128 : Shape := ⟨2, ![300, 128]⟩

abbrev nBuf : Space → Nat
  | .hbm => 17
  | .vmem => 15
  | .smem => 0
  | _ => 0

abbrev bufTy : (tb : Table) → Fin (tcTables nBuf tb) → BufTy
  | .hbm, ⟨0, _⟩ => ⟨S20x300x16x32, .bf16⟩
  | .hbm, ⟨1, _⟩ => ⟨S20x2048x16x32, .i8⟩
  | .hbm, ⟨2, _⟩ => ⟨S20x2048x16, .f32⟩
  | .hbm, ⟨3, _⟩ => ⟨S20x2048x16x32, .fp8e4m3⟩
  | .hbm, ⟨4, _⟩ => ⟨S20x2048x16, .f32⟩
  | .hbm, ⟨5, _⟩ => ⟨S20x300x64, .i32⟩
  | .hbm, ⟨6, _⟩ => ⟨S20x2048x16x32, .fp8e4m3⟩
  | .hbm, ⟨7, _⟩ => ⟨S20x16x32x300, .bf16⟩
  | .hbm, ⟨8, _⟩ => ⟨S20x512x300, .bf16⟩
  | .hbm, ⟨9, _⟩ => ⟨S20x16x32x2048, .fp8e4m3⟩
  | .hbm, ⟨10, _⟩ => ⟨S20x512x2048, .fp8e4m3⟩
  | .hbm, ⟨11, _⟩ => ⟨S20x16x32x2048, .fp8e4m3⟩
  | .hbm, ⟨12, _⟩ => ⟨S20x512x2048, .fp8e4m3⟩
  | .hbm, ⟨13, _⟩ => ⟨S20x16x2048, .f32⟩
  | .hbm, ⟨14, _⟩ => ⟨S20x16x2048, .f32⟩
  | .hbm, ⟨15, _⟩ => ⟨S20x64x300, .i32⟩
  | .hbm, ⟨16, _⟩ => ⟨S20x300x512, .bf16⟩
  | .local _ .vmem, ⟨0, _⟩ => ⟨S1x128x300, .bf16⟩
  | .local _ .vmem, ⟨1, _⟩ => ⟨S1x128x300, .bf16⟩
  | .local _ .vmem, ⟨2, _⟩ => ⟨S1x128x2048, .fp8e4m3⟩
  | .local _ .vmem, ⟨3, _⟩ => ⟨S1x128x2048, .fp8e4m3⟩
  | .local _ .vmem, ⟨4, _⟩ => ⟨S1x16x2048, .f32⟩
  | .local _ .vmem, ⟨5, _⟩ => ⟨S1x16x2048, .f32⟩
  | .local _ .vmem, ⟨6, _⟩ => ⟨S1x128x2048, .fp8e4m3⟩
  | .local _ .vmem, ⟨7, _⟩ => ⟨S1x128x2048, .fp8e4m3⟩
  | .local _ .vmem, ⟨8, _⟩ => ⟨S1x16x2048, .f32⟩
  | .local _ .vmem, ⟨9, _⟩ => ⟨S1x16x2048, .f32⟩
  | .local _ .vmem, ⟨10, _⟩ => ⟨S1x64x300, .i32⟩
  | .local _ .vmem, ⟨11, _⟩ => ⟨S1x64x300, .i32⟩
  | .local _ .vmem, ⟨12, _⟩ => ⟨S1x300x128, .bf16⟩
  | .local _ .vmem, ⟨13, _⟩ => ⟨S1x300x128, .bf16⟩
  | .local _ .vmem, ⟨14, _⟩ => ⟨S2048x300, .f32⟩
  | _, _ => ⟨S20x300x16x32, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_scratch0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![20, 4], ![false, false]⟩

def k0_off1 (i : grid0.Coords) (c0_i32_1 : BitVec 32) : Fin 3 → Nat :=
  let c0 : Index := 0#32
  let arg1 : BitVec 32 := BitVec.ofNat 32 (i 1).val
  let c4_i32 : BitVec 32 := 4#32
  let v3 : BitVec 32 := Scalar.muli arg1 c4_i32
  let v4 : BitVec 32 := Scalar.addi v3 c0_i32_1
  let v5 : Index := Scalar.indexCast v4
  let c0_2 : Index := 0#32
  ![0, v5.toNat, 0]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x128x300 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x128x2048 .fp8e4m3 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x16x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x128x2048 .fp8e4m3 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x16x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x64x300 .i32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x300x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== KernelIdeal.lean ====
variable {F : FTy → Type} [FloatOps F] [Named F]
def κ : String → Option EReal := fun
  | "score_log2e" => some (((11863283 * 67108864⁻¹) * (Real.log 2)⁻¹ : ℝ) : EReal)
  | _ => none
-- ==== ReferenceIdeal.lean ====
abbrev S20x300x16x32 : Shape := ⟨4, ![20, 300, 16, 32]⟩
abbrev S20x2048x16x32 : Shape := ⟨4, ![20, 2048, 16, 32]⟩
abbrev S20x2048x16 : Shape := ⟨3, ![20, 2048, 16]⟩
abbrev S20x300x64 : Shape := ⟨3, ![20, 300, 64]⟩
abbrev S32 : Shape := ⟨1, ![32]⟩
abbrev S20x300x64x1 : Shape := ⟨4, ![20, 300, 64, 1]⟩
abbrev S1x1x1x32 : Shape := ⟨4, ![1, 1, 1, 32]⟩
abbrev S20x300x64x32 : Shape := ⟨4, ![20, 300, 64, 32]⟩
abbrev S_ : Shape := ⟨0, ![]⟩
abbrev S20x300x2048 : Shape := ⟨3, ![20, 300, 2048]⟩
abbrev S20x300 : Shape := ⟨2, ![20, 300]⟩
abbrev S20x300x1 : Shape := ⟨3, ![20, 300, 1]⟩
abbrev S20x16x300x2048 : Shape := ⟨4, ![20, 16, 300, 2048]⟩
abbrev S20x16x2048 : Shape := ⟨3, ![20, 16, 2048]⟩
abbrev S20x16x1x2048 : Shape := ⟨4, ![20, 16, 1, 2048]⟩
abbrev S20x1x300x2048 : Shape := ⟨4, ![20, 1, 300, 2048]⟩
abbrev S20x16x300 : Shape := ⟨3, ![20, 16, 300]⟩
abbrev S20x16x300x1 : Shape := ⟨4, ![20, 16, 300, 1]⟩
abbrev S20x16x32x300 : Shape := ⟨4, ![20, 16, 32, 300]⟩
abbrev S20x300x512 : Shape := ⟨3, ![20, 300, 512]⟩

abbrev nBuf : Space → Nat
  | .hbm => 69
  | .vmem => 4
  | .smem => 0
  | _ => 0

abbrev bufTy : (tb : Table) → Fin (tcTables nBuf tb) → BufTy
  | .hbm, ⟨0, _⟩ => ⟨S20x300x16x32, .bf16⟩
  | .hbm, ⟨1, _⟩ => ⟨S20x2048x16x32, .i8⟩
  | .hbm, ⟨2, _⟩ => ⟨S20x2048x16, .f32⟩
  | .hbm, ⟨3, _⟩ => ⟨S20x2048x16x32, .fp8e4m3⟩
  | .hbm, ⟨4, _⟩ => ⟨S20x2048x16, .f32⟩
  | .hbm, ⟨5, _⟩ => ⟨S20x300x64, .i32⟩
  | .hbm, ⟨6, _⟩ => ⟨S20x2048x16x32, .fp8e4m3⟩
  | .hbm, ⟨7, _⟩ => ⟨S20x2048x16x32, .bf16⟩
  | .hbm, ⟨8, _⟩ => ⟨S20x2048x16x32, .bf16⟩
  | .hbm, ⟨9, _⟩ => ⟨S20x300x64, .i32⟩
  | .hbm, ⟨10, _⟩ => ⟨S32, .i32⟩
  | .hbm, ⟨11, _⟩ => ⟨S20x300x64x1, .i32⟩
  | .hbm, ⟨12, _⟩ => ⟨S1x1x1x32, .i32⟩
  | .hbm, ⟨13, _⟩ => ⟨S20x300x64x32, .i32⟩
  | .hbm, ⟨14, _⟩ => ⟨S20x300x64x32, .i32⟩
  | .hbm, ⟨15, _⟩ => ⟨S20x300x64x32, .i32⟩
  | .hbm, ⟨16, _⟩ => ⟨S_, .i32⟩
  | .hbm, ⟨17, _⟩ => ⟨S20x300x64x32, .i32⟩
  | .hbm, ⟨18, _⟩ => ⟨S20x300x64x32, .i32⟩
  | .hbm, ⟨19, _⟩ => ⟨S_, .i32⟩
  | .hbm, ⟨20, _⟩ => ⟨S20x300x64x32, .i32⟩
  | .hbm, ⟨21, _⟩ => ⟨S20x300x64x32, .i1⟩
  | .hbm, ⟨22, _⟩ => ⟨S20x300x64x32, .i1⟩
  | .hbm, ⟨23, _⟩ => ⟨S20x300x2048, .i1⟩
  | .hbm, ⟨24, _⟩ => ⟨S_, .i32⟩
  | .hbm, ⟨25, _⟩ => ⟨S20x300x64, .i32⟩
  | .hbm, ⟨26, _⟩ => ⟨S20x300x64, .i1⟩
  | .hbm, ⟨27, _⟩ => ⟨S_, .i1⟩
  | .hbm, ⟨28, _⟩ => ⟨S20x300, .i1⟩
  | .hbm, ⟨29, _⟩ => ⟨S20x300x1, .i1⟩
  | .hbm, ⟨30, _⟩ => ⟨S20x300x2048, .i1⟩
  | .hbm, ⟨31, _⟩ => ⟨S20x300x2048, .i1⟩
  | .hbm, ⟨32, _⟩ => ⟨S20x16x300x2048, .f32⟩
  | .hbm, ⟨33, _⟩ => ⟨S20x16x2048, .f32⟩
  | .hbm, ⟨34, _⟩ => ⟨S_, .f32⟩
  | .hbm, ⟨35, _⟩ => ⟨S20x16x2048, .f32⟩
  | .hbm, ⟨36, _⟩ => ⟨S20x16x2048, .f32⟩
  | .hbm, ⟨37, _⟩ => ⟨S20x16x1x2048, .f32⟩
  | .hbm, ⟨38, _⟩ => ⟨S20x1x300x2048, .i1⟩
  | .hbm, ⟨39, _⟩ => ⟨S20x16x300x2048, .f32⟩
  | .hbm, ⟨40, _⟩ => ⟨S20x16x300x2048, .f32⟩
  | .hbm, ⟨41, _⟩ => ⟨S_, .f32⟩
  | .hbm, ⟨42, _⟩ => ⟨S_, .f32⟩
  | .hbm, ⟨43, _⟩ => ⟨S20x16x300x2048, .i1⟩
  | .hbm, ⟨44, _⟩ => ⟨S20x16x300x2048, .f32⟩
  | .hbm, ⟨45, _⟩ => ⟨S20x16x300x2048, .f32⟩
  | .hbm, ⟨46, _⟩ => ⟨S_, .f32⟩
  | .hbm, ⟨47, _⟩ => ⟨S20x16x300, .f32⟩
  | .hbm, ⟨48, _⟩ => ⟨S_, .f32⟩
  | .hbm, ⟨49, _⟩ => ⟨S20x16x300, .f32⟩
  | .hbm, ⟨50, _⟩ => ⟨S20x16x300, .f32⟩
  | .hbm, ⟨51, _⟩ => ⟨S20x16x300x1, .f32⟩
  | .hbm, ⟨52, _⟩ => ⟨S20x16x300x2048, .f32⟩
  | .hbm, ⟨53, _⟩ => ⟨S20x16x300x2048, .f32⟩
  | .hbm, ⟨54, _⟩ => ⟨S20x16x300x2048, .f32⟩
  | .hbm, ⟨55, _⟩ => ⟨S_, .f32⟩
  | .hbm, ⟨56, _⟩ => ⟨S20x16x300, .f32⟩
  | .hbm, ⟨57, _⟩ => ⟨S20x16x300x1, .f32⟩
  | .hbm, ⟨58, _⟩ => ⟨S20x16x300x2048, .f32⟩
  | .hbm, ⟨59, _⟩ => ⟨S20x16x300x2048, .f32⟩
  | .hbm, ⟨60, _⟩ => ⟨S20x16x2048, .f32⟩
  | .hbm, ⟨61, _⟩ => ⟨S20x16x1x2048, .f32⟩
  | .hbm, ⟨62, _⟩ => ⟨S20x16x300x2048, .f32⟩
  | .hbm, ⟨63, _⟩ => ⟨S20x16x300x2048, .f32⟩
  | .hbm, ⟨64, _⟩ => ⟨S20x16x300x2048, .bf16⟩
  | .hbm, ⟨65, _⟩ => ⟨S20x16x32x300, .f32⟩
  | .hbm, ⟨66, _⟩ => ⟨S20x300x16x32, .f32⟩
  | .hbm, ⟨67, _⟩ => ⟨S20x300x512, .f32⟩
  | .hbm, ⟨68, _⟩ => ⟨S20x300x512, .bf16⟩
  | .local _ .vmem, ⟨0, _⟩ => ⟨S20x2048x16x32, .fp8e4m3⟩
  | .local _ .vmem, ⟨1, _⟩ => ⟨S20x2048x16x32, .fp8e4m3⟩
  | .local _ .vmem, ⟨2, _⟩ => ⟨S20x2048x16x32, .bf16⟩
  | .local _ .vmem, ⟨3, _⟩ => ⟨S20x2048x16x32, .bf16⟩
  | _, _ => ⟨S20x300x16x32, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1_0 : Ref sig .tc := ⟨.hbm, 7, rfl⟩
abbrev main_v1_1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_c : Ref sig .tc := ⟨.hbm, 16, rfl⟩
abbrev main_v9 : Ref sig .tc := ⟨.hbm, 17, rfl⟩
abbrev main_v10 : Ref sig .tc := ⟨.hbm, 18, rfl⟩
abbrev main_c_0 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_c_1 : Ref sig .tc := ⟨.hbm, 24, rfl⟩
abbrev main_v15 : Ref sig .tc := ⟨.hbm, 25, rfl⟩
abbrev main_v16 : Ref sig .tc := ⟨.hbm, 26, rfl⟩
abbrev main_c_2 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_cst : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_cst_3 : Ref sig .tc := ⟨.hbm, 41, rfl⟩
abbrev main_call0_v0 : Ref sig .tc := ⟨.hbm, 42, rfl⟩
abbrev main_call0_v1 : Ref sig .tc := ⟨.hbm, 43, rfl⟩
abbrev main_call0_v2 : Ref sig .tc := ⟨.hbm, 44, rfl⟩
abbrev main_v29 : Ref sig .tc := ⟨.hbm, 45, rfl⟩
abbrev main_cst_4 : Ref sig .tc := ⟨.hbm, 46, rfl⟩
abbrev main_v30 : Ref sig .tc := ⟨.hbm, 47, rfl⟩
abbrev main_cst_5 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_cst_6 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_sem0_0 : DmaSem sig := 0
abbrev cc0_sem1_0 : DmaSem sig := 1
abbrev cc0_sem2_0 : DmaSem sig := 2
abbrev cc0_sem3_0 : DmaSem sig := 3

abbrev nD : Nat := 1
abbrev τ : Topo := Topo.v7x

variable {F : FTy → Type} [FloatOps F]

abbrev grid0 : Pipeline.Grid := .none

abbrev stage0_0 : Fin 1 → Memref sig .tc .vmem S20x2048x16x32 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S20x2048x16x32 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S20x2048x16x32 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S20x2048x16x32 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== Proof.Softmax.lean ====
/- The equation of the two attentions for one query and one head, over the extended reals: a softmax taken with
   powers of two and normalized after the weighted sum is the softmax taken with exponentials and normalized before it. -/
module

public import Idealize.ShloMosaic.PureOps.Ideal.Laws

@[expose] public section

noncomputable section

namespace Cert.Attention

open Idealize.ShloMosaic

variable {ι : Type} [Fintype ι]

/-- A sum of extended reals times a nonnegative real is the sum of the products. -/
theorem sum_mul_coe (s : Finset ι) (f : ι → EReal) (c : ℝ) (hc : 0 ≤ c) :
    (∑ p ∈ s, f p) * (c : EReal) = ∑ p ∈ s, f p * (c : EReal) := by
  classical
  induction s using Finset.induction_on with
  | empty => simp
  | insert a s ha ih =>
    rw [Finset.sum_insert ha, Finset.sum_insert ha,
      EReal.right_distrib_of_nonneg_of_ne_top (by exact_mod_cast hc) (EReal.coe_ne_top c), ih]

/-- A sum of reals read in the extended reals. -/
theorem sum_coe (s : Finset ι) (f : ι → ℝ) : (∑ p ∈ s, ((f p : ℝ) : EReal)) = ((∑ p ∈ s, f p : ℝ) : EReal) := by
  classical
  induction s using Finset.induction_on with
  | empty => simp
  | insert a s ha ih => rw [Finset.sum_insert ha, Finset.sum_insert ha, ih, EReal.coe_add]

/-- The maximum of a family of extended reals, folded from `⊥`, when one member is real and bounds the rest. -/
theorem fold_max_eq (f : ι → EReal) (p : ι) (h : ∀ q, f q ≤ f p) : Finset.univ.fold max ⊥ f = f p :=
  le_antisymm ((Finset.fold_max_le _).2 ⟨bot_le, fun q _ => h q⟩)
    ((Finset.le_fold_max _).2 (Or.inr ⟨p, Finset.mem_univ p, le_rfl⟩))

/-- Softmax attention of one query over the allowed positions `a`, real scores `x`, values `v` and value scales `s`.
    On the left the scores are divided by `log 2`, the mask is added as `0` or `⊥`, the weights are powers of two and
    the division by their sum comes last; on the right the mask selects `⊥`, the weights are exponentials, and the
    division comes first. One position at least is allowed, so both maxima are real. -/
theorem attention_eq (x : ι → ℝ) (a : ι → Prop) [DecidablePred a] (hne : ∃ p, a p) (v s T S : ι → EReal)
    (hT : ∀ p, T p = ((x p * (Real.log 2)⁻¹ : ℝ) : EReal) + if a p then 0 else ⊥)
    (hS : ∀ p, S p = if a p then (x p : EReal) else ⊥) :
    Ideal.div (∑ p, (v p * s p) * Ideal.exp2 (T p - Finset.univ.fold max ⊥ T))
        (∑ p, Ideal.exp2 (T p - Finset.univ.fold max ⊥ T))
      = ∑ p, v p * (Ideal.div (Ideal.exp (S p - Finset.univ.fold max ⊥ S))
          (∑ p, Ideal.exp (S p - Finset.univ.fold max ⊥ S)) * s p) := by
  classical
  have hlog : 0 < Real.log 2 := Real.log_pos (by norm_num)
  obtain ⟨p0, hp0, hmax⟩ := Finset.exists_max_image (Finset.univ.filter a) x
    (by obtain ⟨p, hp⟩ := hne; exact ⟨p, by simpa using hp⟩)
  have ha0 : a p0 := by simpa using hp0
  have hM : ∀ q, a q → x q ≤ x p0 := fun q hq => hmax q (by simpa using hq)
  have hfT : Finset.univ.fold max ⊥ T = ((x p0 * (Real.log 2)⁻¹ : ℝ) : EReal) := by
    rw [fold_max_eq T p0]
    · rw [hT, if_pos ha0, add_zero]
    · intro q
      rw [hT, hT, if_pos ha0, add_zero]
      by_cases hq : a q
      · rw [if_pos hq, add_zero, EReal.coe_le_coe_iff]
        exact mul_le_mul_of_nonneg_right (hM q hq) (inv_nonneg.2 hlog.le)
      · rw [if_neg hq, EReal.add_bot]; exact bot_le
  have hfS : Finset.univ.fold max ⊥ S = ((x p0 : ℝ) : EReal) := by
    rw [fold_max_eq S p0]
    · rw [hS, if_pos ha0]
    · intro q
      rw [hS, hS, if_pos ha0]
      by_cases hq : a q
      · rw [if_pos hq, EReal.coe_le_coe_iff]; exact hM q hq
      · rw [if_neg hq]; exact bot_le
  let e : ι → ℝ := fun p => if a p then Real.exp (x p - x p0) else 0
  have he0 : ∀ p, 0 ≤ e p := fun p => by
    show 0 ≤ if a p then Real.exp (x p - x p0) else 0
    split_ifs
    · exact (Real.exp_pos _).le
    · exact le_rfl
  have heT : ∀ p, Ideal.exp2 (T p - Finset.univ.fold max ⊥ T) = (e p : EReal) := fun p => by
    rw [hfT, hT]
    by_cases hp : a p
    · rw [if_pos hp, add_zero, ← EReal.coe_sub]
      show ((Real.rpow 2 (x p * (Real.log 2)⁻¹ - x p0 * (Real.log 2)⁻¹) : ℝ) : EReal) = ((if a p then Real.exp (x p - x p0) else 0 : ℝ) : EReal)
      rw [if_pos hp, ← sub_mul]
      congr 1
      show (2 : ℝ) ^ ((x p - x p0) * (Real.log 2)⁻¹) = _
      rw [Real.rpow_def_of_pos (by norm_num), mul_comm (Real.log 2), mul_assoc, inv_mul_cancel₀ hlog.ne', mul_one]
    · rw [if_neg hp, EReal.add_bot, EReal.bot_sub]
      show (0 : EReal) = ((if a p then Real.exp (x p - x p0) else 0 : ℝ) : EReal)
      rw [if_neg hp, EReal.coe_zero]
  have heS : ∀ p, Ideal.exp (S p - Finset.univ.fold max ⊥ S) = (e p : EReal) := fun p => by
    rw [hfS, hS]
    by_cases hp : a p
    · rw [if_pos hp, ← EReal.coe_sub]
      show ((Real.exp (x p - x p0) : ℝ) : EReal) = ((if a p then Real.exp (x p - x p0) else 0 : ℝ) : EReal)
      rw [if_pos hp]
    · rw [if_neg hp, EReal.bot_sub]
      show (0 : EReal) = ((if a p then Real.exp (x p - x p0) else 0 : ℝ) : EReal)
      rw [if_neg hp, EReal.coe_zero]
  have hl : 0 < ∑ p, e p := by
    refine Finset.sum_pos' (fun p _ => he0 p) ⟨p0, Finset.mem_univ _, ?_⟩
    show 0 < if a p0 then Real.exp (x p0 - x p0) else 0
    rw [if_pos ha0]; exact Real.exp_pos _
  simp only [heT, heS, sum_coe]
  simp only [Ideal.div_coe hl.ne']
  rw [sum_mul_coe _ _ _ (by positivity)]
  refine Finset.sum_congr rfl fun p _ => ?_
  rw [mul_assoc (v p), mul_assoc (v p), mul_comm (s p) (e p : EReal), mul_assoc, mul_assoc, mul_comm (s p)]

end Cert.Attention

end
-- ==== Proof.Mask.lean ====
/- The mask of one query: 64 words of 32 bits, one bit per position; a query whose words are all zero sees every position. -/
module

public import proofs.«01_k».proof.Proof.Softmax

@[expose] public section

namespace Cert.Attention

/-- Position `p` is allowed by a query's mask words: its bit is set, or no bit of any word is. -/
def allowed (word : Fin 64 → BitVec 32) (p : Fin 2048) : Prop :=
  (∀ w, word w = 0#32) ∨ (word ⟨p.val / 32, by omega⟩).getLsbD (p.val % 32) = true

instance (word : Fin 64 → BitVec 32) : DecidablePred (allowed word) := fun p => by unfold allowed; infer_instance

/-- Every query has an allowed position. -/
theorem exists_allowed (word : Fin 64 → BitVec 32) : ∃ p, allowed word p := by
  by_cases h : ∀ w, word w = 0#32
  · exact ⟨0, Or.inl h⟩
  · obtain ⟨w, hw⟩ := not_forall.1 h
    obtain ⟨j, hj, hb⟩ : ∃ j, j < 32 ∧ (word w).getLsbD j = true := by
      by_contra hn
      refine hw (BitVec.eq_of_getLsbD_eq fun j hj => ?_)
      rw [BitVec.getLsbD_zero]
      exact Bool.eq_false_iff.2 fun hb => hn ⟨j, hj, hb⟩
    have hwl := w.isLt
    refine ⟨⟨32 * w.val + j, by omega⟩, Or.inr ?_⟩
    have e1 : (⟨(32 * w.val + j) / 32, by omega⟩ : Fin 64) = w := Fin.ext (by show (32 * w.val + j) / 32 = w.val; omega)
    have e2 : (32 * w.val + j) % 32 = j := by omega
    show (word ⟨(32 * w.val + j) / 32, _⟩).getLsbD ((32 * w.val + j) % 32) = true
    rw [e1, e2, hb]

/-- A word masked with bit `j` alone is not zero exactly when bit `j` is set. -/
theorem and_bit_ne_zero (w : BitVec 32) (j : Nat) (hj : j < 32) :
    (w &&& (1#32 <<< BitVec.ofNat 32 j)) ≠ 0#32 ↔ w.getLsbD j = true := by
  have e : 1#32 <<< BitVec.ofNat 32 j = BitVec.twoPow 32 j := by
    rw [BitVec.shiftLeft_eq', BitVec.toNat_ofNat, Nat.mod_eq_of_lt (by omega)]
    rfl
  rw [e, BitVec.and_twoPow]
  by_cases h : w.getLsbD j = true
  · rw [if_pos h]
    refine ⟨fun _ => h, fun _ hz => ?_⟩
    have := congrArg (fun x => x.getLsbD j) hz
    simp [hj] at this
  · rw [if_neg h]; exact ⟨fun hn => absurd rfl hn, fun hb => absurd hb h⟩

/-- A word shifted right by `j` has a set lowest bit exactly when its bit `j` is set. -/
theorem shift_and_one_ne_zero (w : BitVec 32) (j : Nat) (hj : j < 32) :
    ((w >>> BitVec.ofNat 32 j) &&& 1#32) ≠ 0#32 ↔ w.getLsbD j = true := by
  have e : w >>> BitVec.ofNat 32 j = w >>> j := by
    rw [BitVec.ushiftRight_eq', BitVec.toNat_ofNat, Nat.mod_eq_of_lt (by omega)]
  have e1 : (1#32 : BitVec 32) = BitVec.twoPow 32 0 := rfl
  rw [e, e1, BitVec.and_twoPow, BitVec.getLsbD_ushiftRight, Nat.add_zero]
  by_cases h : w.getLsbD j = true
  · rw [if_pos h]; exact ⟨fun _ => h, fun _ => by decide⟩
  · rw [if_neg h]; exact ⟨fun hn => absurd rfl hn, fun hb => absurd hb h⟩

/-- Every bit of the word of ones is set. -/
theorem ones_bit (j : Nat) (hj : j < 32) : (4294967295#32 : BitVec 32).getLsbD j = true := by
  have e : (4294967295#32 : BitVec 32) = BitVec.allOnes 32 := by decide
  rw [e, BitVec.getLsbD_allOnes]; exact decide_eq_true hj

end Cert.Attention

end
-- ==== Proof.KernelHead.lean ====
/- What one block of the kernel computes, head by head: each value its body computes, read at an index. -/
module

public import proofs.«01_k».proof.Proof.Softmax
public import proofs.«01_k».proof.Proof.Gen.KernelIdeal.Skeleton
public import Idealize.ShloMosaic.Lib.Pipeline.Value
public import Idealize.ShloMosaic.Lib.ValueIdx
public import Idealize.ShloMosaic.PureOps.Ideal.Laws

@[expose] public section

noncomputable section

namespace Cert.KernelIdeal.Head

open Cert.KernelIdeal Cert.KernelIdeal.Gen Idealize.ShloMosaic Idealize.ShloMosaic.ValueIdx

/-- The constant by which the kernel multiplies its scores: the score's scale over `log 2`. -/
def scoreFactor : ℝ := (11863283 * 67108864⁻¹) * (Real.log 2)⁻¹

/-- The kernel's named constant is `scoreFactor`. -/
theorem named_eq : (Named.named κ "score_log2e" 0x3E8293EE#32 : Ideal .f32) = (scoreFactor : EReal) :=
  IdealRules.named_const.ideal_named_scalar _ _ _ _ rfl

/-- The pattern of the reductions' starting value is `⊥`. -/
theorem ofBits_neg_inf : Ideal.ofBits .f32 0xFF800000#32 = ⊥ := by simp [Ideal.ofBits, Ideal.ieee]

/-! ### The two products' operand indices -/

theorem lhs_qk_free (i : S2048x300.Idx) (q : dot_S32x2048_S32x300_S2048x300_0_0_1_1_n_n.contr.Idx) : (dot_S32x2048_S32x300_S2048x300_0_0_1_1_n_n.lhsIdx i q 1).val = (i 0).val := by
  unfold DotDims.lhsIdx
  rw [dif_neg (show ¬(1 : Fin S32x2048.rank) ∈ dot_S32x2048_S32x300_S2048x300_0_0_1_1_n_n.lhsBatch by decide),
    dif_pos (show (1 : Fin S32x2048.rank) ∈ dot_S32x2048_S32x300_S2048x300_0_0_1_1_n_n.lhsNonContracting by decide)]
  rfl

theorem lhs_qk (p : Fin 2048) (n : Fin 300) (d : Fin 32) :
    dot_S32x2048_S32x300_S2048x300_0_0_1_1_n_n.lhsIdx (ix2 p n : S2048x300.Idx) ((contrEquiv1 dot_S32x2048_S32x300_S2048x300_0_0_1_1_n_n 32 rfl rfl).symm d) = (ix2 d p : S32x2048.Idx) :=
  funext fun a => Fin.ext (by
    match a with
    | ⟨0, _⟩ => exact (dot_S32x2048_S32x300_S2048x300_0_0_1_1_n_n.lhsIdx_val_of_single rfl _ _).trans (contrEquiv1_symm_val _ 32 rfl rfl d)
    | ⟨1, _⟩ => exact lhs_qk_free _ _)

theorem rhs_qk_free (i : S2048x300.Idx) (q : dot_S32x2048_S32x300_S2048x300_0_0_1_1_n_n.contr.Idx) : (dot_S32x2048_S32x300_S2048x300_0_0_1_1_n_n.rhsIdx i q 1).val = (i 1).val := by
  unfold DotDims.rhsIdx
  rw [dif_neg (show ¬(1 : Fin S32x300.rank) ∈ dot_S32x2048_S32x300_S2048x300_0_0_1_1_n_n.rhsBatch by decide),
    dif_pos (show (1 : Fin S32x300.rank) ∈ dot_S32x2048_S32x300_S2048x300_0_0_1_1_n_n.rhsNonContracting by decide)]
  rfl

theorem rhs_qk (p : Fin 2048) (n : Fin 300) (d : Fin 32) :
    dot_S32x2048_S32x300_S2048x300_0_0_1_1_n_n.rhsIdx (ix2 p n : S2048x300.Idx) ((contrEquiv1 dot_S32x2048_S32x300_S2048x300_0_0_1_1_n_n 32 rfl rfl).symm d) = (ix2 d n : S32x300.Idx) :=
  funext fun a => Fin.ext (by
    match a with
    | ⟨0, _⟩ => exact (dot_S32x2048_S32x300_S2048x300_0_0_1_1_n_n.rhsIdx_val_of_single rfl _ _).trans (contrEquiv1_symm_val _ 32 rfl rfl d)
    | ⟨1, _⟩ => exact rhs_qk_free _ _)

theorem lhs_pv_free (i : S32x300.Idx) (q : dot_S32x2048_S2048x300_S32x300_1_0_0_1_n_n.contr.Idx) : (dot_S32x2048_S2048x300_S32x300_1_0_0_1_n_n.lhsIdx i q 0).val = (i 0).val := by
  unfold DotDims.lhsIdx
  rw [dif_neg (show ¬(0 : Fin S32x2048.rank) ∈ dot_S32x2048_S2048x300_S32x300_1_0_0_1_n_n.lhsBatch by decide),
    dif_pos (show (0 : Fin S32x2048.rank) ∈ dot_S32x2048_S2048x300_S32x300_1_0_0_1_n_n.lhsNonContracting by decide)]
  rfl

theorem lhs_pv (d : Fin 32) (n : Fin 300) (p : Fin 2048) :
    dot_S32x2048_S2048x300_S32x300_1_0_0_1_n_n.lhsIdx (ix2 d n : S32x300.Idx) ((contrEquiv1 dot_S32x2048_S2048x300_S32x300_1_0_0_1_n_n 2048 rfl rfl).symm p) = (ix2 d p : S32x2048.Idx) :=
  funext fun a => Fin.ext (by
    match a with
    | ⟨1, _⟩ => exact (dot_S32x2048_S2048x300_S32x300_1_0_0_1_n_n.lhsIdx_val_of_single rfl _ _).trans (contrEquiv1_symm_val _ 2048 rfl rfl p)
    | ⟨0, _⟩ => exact lhs_pv_free _ _)

theorem rhs_pv_free (i : S32x300.Idx) (q : dot_S32x2048_S2048x300_S32x300_1_0_0_1_n_n.contr.Idx) : (dot_S32x2048_S2048x300_S32x300_1_0_0_1_n_n.rhsIdx i q 1).val = (i 1).val := by
  unfold DotDims.rhsIdx
  rw [dif_neg (show ¬(1 : Fin S2048x300.rank) ∈ dot_S32x2048_S2048x300_S32x300_1_0_0_1_n_n.rhsBatch by decide),
    dif_pos (show (1 : Fin S2048x300.rank) ∈ dot_S32x2048_S2048x300_S32x300_1_0_0_1_n_n.rhsNonContracting by decide)]
  rfl

theorem rhs_pv (d : Fin 32) (n : Fin 300) (p : Fin 2048) :
    dot_S32x2048_S2048x300_S32x300_1_0_0_1_n_n.rhsIdx (ix2 d n : S32x300.Idx) ((contrEquiv1 dot_S32x2048_S2048x300_S32x300_1_0_0_1_n_n 2048 rfl rfl).symm p) = (ix2 p n : S2048x300.Idx) :=
  funext fun a => Fin.ext (by
    match a with
    | ⟨0, _⟩ => exact (dot_S32x2048_S2048x300_S32x300_1_0_0_1_n_n.rhsIdx_val_of_single rfl _ _).trans (contrEquiv1_symm_val _ 2048 rfl rfl p)
    | ⟨1, _⟩ => exact rhs_pv_free _ _)

/-- The product of keys (head dimension by position) with queries (head dimension by query), from zero. -/
theorem matmul_qk_apply (k : FVec Ideal S32x2048 .bf16) (q : FVec Ideal S32x300 .bf16) (p : Fin 2048) (n : Fin 300) :
    matmul dot_S32x2048_S32x300_S2048x300_0_0_1_1_n_n none k q (constant S2048x300 .f32 0x00000000#32) (ix2 p n)
      = ∑ d : Fin 32, k (ix2 d p) * q (ix2 d n) := by
  refine (Ideal.matmul_constant_zero_apply _ none k q (ix2 p n)).trans ?_
  rw [← Equiv.sum_comp (contrEquiv1 dot_S32x2048_S32x300_S2048x300_0_0_1_1_n_n 32 rfl rfl).symm]
  exact Finset.sum_congr rfl fun d _ => by rw [lhs_qk, rhs_qk]

/-- The product of values (head dimension by position) with weights (position by query), from zero. -/
theorem matmul_pv_apply (v : FVec Ideal S32x2048 .bf16) (w : FVec Ideal S2048x300 .bf16) (d : Fin 32) (n : Fin 300) :
    matmul dot_S32x2048_S2048x300_S32x300_1_0_0_1_n_n none v w (constant S32x300 .f32 0x00000000#32) (ix2 d n)
      = ∑ p : Fin 2048, v (ix2 d p) * w (ix2 p n) := by
  refine (Ideal.matmul_constant_zero_apply _ none v w (ix2 d n)).trans ?_
  rw [← Equiv.sum_comp (contrEquiv1 dot_S32x2048_S2048x300_S32x300_1_0_0_1_n_n 2048 rfl rfl).symm]
  exact Finset.sum_congr rfl fun p _ => by rw [lhs_pv, rhs_pv]

/-! ### Layout operations read at an index -/

theorem cast_rows {α : Type} (x : S1x32x2048.Idx → α) (d : Fin 32) (p : Fin 2048) :
    shapeCast S32x2048 x shapeCasts_S1x32x2048_S32x2048 (ix2 d p) = x (ix3 0 d p) :=
  shapeCast_apply x _ _ _ (by
    rw [Shape.rowMajor_val_three, Shape.rowMajor_val_two]
    show ((0 : Nat) * 32 + d.val) * 2048 + p.val = d.val * 2048 + p.val; omega)

theorem cast_queries {α : Type} (x : S1x32x300.Idx → α) (d : Fin 32) (n : Fin 300) :
    shapeCast S32x300 x shapeCasts_S1x32x300_S32x300 (ix2 d n) = x (ix3 0 d n) :=
  shapeCast_apply x _ _ _ (by
    rw [Shape.rowMajor_val_three, Shape.rowMajor_val_two]
    show ((0 : Nat) * 32 + d.val) * 300 + n.val = d.val * 300 + n.val; omega)

theorem scale_row {α : Type} (x : S1x1x2048.Idx → α) (d : Fin 32) (p : Fin 2048) :
    broadcastTo S32x2048 (shapeCast S1x2048 x shapeCasts_S1x1x2048_S1x2048) broadcasts_S1x2048_S32x2048 (ix2 d p) = x (ix3 0 0 p) := by
  rw [broadcastTo_apply _ _ (ix2 d p) (ix2 0 p : S1x2048.Idx) (fun a => match a with
    | ⟨0, _⟩ => rfl
    | ⟨1, _⟩ => by show p.val = if (2048 : Nat) = 1 then 0 else p.val; rw [if_neg (by decide)])]
  exact shapeCast_apply x _ _ _ (by
    rw [Shape.rowMajor_val_three, Shape.rowMajor_val_two]
    show ((0 : Nat) * 1 + 0) * 2048 + p.val = 0 * 2048 + p.val; omega)

/-- A row of one number per query, repeated over `2048` rows. -/
theorem spread_positions {α : Type} (x : S300.Idx → α) (p : Fin 2048) (n : Fin 300) :
    broadcastTo S2048x300 (shapeCast S1x300 x shapeCasts_S300_S1x300) broadcasts_S1x300_S2048x300 (ix2 p n) = x (ix1 n) := by
  rw [broadcastTo_apply _ _ (ix2 p n) (ix2 0 n : S1x300.Idx) (fun a => match a with
    | ⟨0, _⟩ => rfl
    | ⟨1, _⟩ => by show n.val = if (300 : Nat) = 1 then 0 else n.val; rw [if_neg (by decide)])]
  exact shapeCast_apply x _ _ _ (by
    rw [Shape.rowMajor_val_one, Shape.rowMajor_val_two]
    show n.val = 0 * 300 + n.val; omega)

/-- A row of one number per query, repeated over `32` rows. -/
theorem spread_dims {α : Type} (x : S300.Idx → α) (d : Fin 32) (n : Fin 300) :
    broadcastTo S32x300 (shapeCast S1x300 x shapeCasts_S300_S1x300) broadcasts_S1x300_S32x300 (ix2 d n) = x (ix1 n) := by
  rw [broadcastTo_apply _ _ (ix2 d n) (ix2 0 n : S1x300.Idx) (fun a => match a with
    | ⟨0, _⟩ => rfl
    | ⟨1, _⟩ => by show n.val = if (300 : Nat) = 1 then 0 else n.val; rw [if_neg (by decide)])]
  exact shapeCast_apply x _ _ _ (by
    rw [Shape.rowMajor_val_one, Shape.rowMajor_val_two]
    show n.val = 0 * 300 + n.val; omega)

/-! ### The two reductions over the positions -/

theorem sum_positions (x : FVec Ideal S2048x300 .f32) (n : Fin 300) :
    multiReduction .add [0] S300 x 0x00000000#32 reduces_S2048x300_S300 (.inl rfl) rfl (ix1 n) = ∑ p : Fin 2048, x (ix2 p n) := by
  refine (Ideal.multiReduction_add_single x _ reduces_S2048x300_S300 (.inl rfl) rfl (ix1 n)).trans ?_
  refine Finset.sum_congr rfl fun p _ => congrArg x ?_
  exact funext fun a => match a with | ⟨0, _⟩ => rfl | ⟨1, _⟩ => rfl

theorem max_positions (x : FVec Ideal S2048x300 .f32) (n : Fin 300) :
    multiReduction .maximumf [0] S300 x 0xFF800000#32 reduces_S2048x300_S300 (.inl rfl) rfl (ix1 n)
      = Finset.univ.fold max ⊥ (fun p : Fin 2048 => x (ix2 p n)) := by
  refine (Ideal.multiReduction_maximumf_single x _ reduces_S2048x300_S300 (.inl rfl) rfl (ix1 n)).trans ?_
  show Finset.fold max (Ideal.ofBits .f32 0xFF800000#32) _ _ = _
  rw [ofBits_neg_inf]
  refine congrArg (fun f => Finset.univ.fold max ⊥ f) (funext fun p => congrArg x ?_)
  exact funext fun a => match a with | ⟨0, _⟩ => rfl | ⟨1, _⟩ => rfl

/-! ### The values of one head -/

/-- Codes times their scales: at dimension `d` and position `p`, the code times the position's scale. -/
theorem pay3_apply (s : Vec Ideal S1x1x2048 .f32) (x : Vec Ideal S1x32x2048 .fp8e4m3) (d : Fin 32) (p : Fin 2048) :
    k0_pay3 (F := Ideal) s x (ix2 d p) = x (ix3 0 d p) * s (ix3 0 0 p) := by
  show shapeCast S32x2048 x shapeCasts_S1x32x2048_S32x2048 (ix2 d p)
    * broadcastTo S32x2048 (shapeCast S1x2048 s shapeCasts_S1x1x2048_S1x2048) broadcasts_S1x2048_S32x2048 (ix2 d p) = _
  rw [cast_rows, scale_row]

/-- The scores of one head without the mask. -/
theorem pay8_apply (s : Vec Ideal S1x1x2048 .f32) (x : Vec Ideal S1x32x2048 .fp8e4m3) (q : Vec Ideal S1x32x300 .bf16)
    (p : Fin 2048) (n : Fin 300) :
    k0_pay8 (F := Ideal) s x q (ix2 p n)
      = (∑ d : Fin 32, (x (ix3 0 d p) * s (ix3 0 0 p)) * q (ix3 0 d n)) * (scoreFactor : EReal) := by
  show matmul dot_S32x2048_S32x300_S2048x300_0_0_1_1_n_n none (k0_pay3 (F := Ideal) s x)
      (shapeCast S32x300 q shapeCasts_S1x32x300_S32x300 : FVec Ideal S32x300 .bf16) (constant S2048x300 .f32 0x00000000#32) (ix2 p n)
    * (Named.named κ "score_log2e" 0x3E8293EE#32 : Ideal .f32) = _
  rw [matmul_qk_apply, named_eq]
  refine congrArg (· * (scoreFactor : EReal)) (Finset.sum_congr rfl fun d _ => ?_)
  rw [pay3_apply, cast_queries]

/-- The softmax-weighted sum of one head: from the scaled values `v`, the scores `t` and the mask `b`, at dimension `d`
    and query `n`, the sum of values times weights over the sum of weights, a weight being two to the power of the
    masked score less the largest one. -/
theorem pay9_apply (v : FVec Ideal S32x2048 .bf16) (t : FVec Ideal S2048x300 .f32) (b : Vec Ideal S2048x300 .f32)
    (d : Fin 32) (n : Fin 300) :
    k0_pay9 (F := Ideal) v t b (ix2 d n)
      = Ideal.div
          (∑ p : Fin 2048, v (ix2 d p) * Ideal.exp2 ((t (ix2 p n) + b (ix2 p n))
            - Finset.univ.fold max ⊥ (fun p : Fin 2048 => t (ix2 p n) + b (ix2 p n))))
          (∑ p : Fin 2048, Ideal.exp2 ((t (ix2 p n) + b (ix2 p n))
            - Finset.univ.fold max ⊥ (fun p : Fin 2048 => t (ix2 p n) + b (ix2 p n)))) := by
  let m : FVec Ideal S300 .f32 := multiReduction .maximumf [0] S300 (addf t b : FVec Ideal S2048x300 .f32) 0xFF800000#32 reduces_S2048x300_S300 (.inl rfl) rfl
  let e : FVec Ideal S2048x300 .f32 := exp2 (subf (addf t b : FVec Ideal S2048x300 .f32)
    (broadcastTo S2048x300 (shapeCast S1x300 m shapeCasts_S300_S1x300) broadcasts_S1x300_S2048x300))
  have he : ∀ p : Fin 2048, e (ix2 p n) = Ideal.exp2 ((t (ix2 p n) + b (ix2 p n))
      - Finset.univ.fold max ⊥ (fun p : Fin 2048 => t (ix2 p n) + b (ix2 p n))) := fun p => by
    show Ideal.exp2 ((t (ix2 p n) + b (ix2 p n))
      - broadcastTo S2048x300 (shapeCast S1x300 m shapeCasts_S300_S1x300) broadcasts_S1x300_S2048x300 (ix2 p n)) = _
    rw [spread_positions]
    show Ideal.exp2 ((t (ix2 p n) + b (ix2 p n)) - multiReduction .maximumf [0] S300 (addf t b : FVec Ideal S2048x300 .f32) 0xFF800000#32 reduces_S2048x300_S300 (.inl rfl) rfl (ix1 n)) = _
    rw [max_positions]
    rfl
  show Ideal.div (matmul dot_S32x2048_S2048x300_S32x300_1_0_0_1_n_n none v (truncf .bf16 e bitsLt_bf16_f32) (constant S32x300 .f32 0x00000000#32) (ix2 d n))
    (broadcastTo S32x300 (shapeCast S1x300 (multiReduction .add [0] S300 e 0x00000000#32 reduces_S2048x300_S300 (.inl rfl) rfl) shapeCasts_S300_S1x300) broadcasts_S1x300_S32x300 (ix2 d n)) = _
  rw [matmul_pv_apply, spread_dims, sum_positions]
  refine congrArg₂ Ideal.div (Finset.sum_congr rfl fun p _ => ?_) (Finset.sum_congr rfl fun p _ => he p)
  show v (ix2 d p) * e (ix2 p n) = _
  rw [he]

/-- One head's output from its blocks: key codes and scales, value codes and scales, queries, and the mask. -/
def head (ks : Vec Ideal S1x1x2048 .f32) (k : Vec Ideal S1x32x2048 .fp8e4m3) (vs : Vec Ideal S1x1x2048 .f32)
    (v : Vec Ideal S1x32x2048 .fp8e4m3) (q : Vec Ideal S1x32x300 .bf16) (b : Vec Ideal S2048x300 .f32) : FVec Ideal S32x300 .f32 :=
  k0_pay9 (F := Ideal) (k0_pay3 (F := Ideal) vs v) (k0_pay8 (F := Ideal) ks k q) b

variable (ks : Vec Ideal S1x1x2048 .f32) (k : Vec Ideal S1x32x2048 .fp8e4m3) (vs : Vec Ideal S1x1x2048 .f32)
  (v : Vec Ideal S1x32x2048 .fp8e4m3) (q : Vec Ideal S1x32x300 .bf16) (b : Vec Ideal S2048x300 .f32)

/-- The first head's computation is `head`. -/
theorem head_0 : k0_pay6 (F := Ideal) (k0_pay3 (F := Ideal) vs v) (k0_pay4 (F := Ideal) ks k q b) (k0_pay5 (F := Ideal) ks k q b) = head ks k vs v q b := rfl
/-- The second head's computation is `head`. -/
theorem head_1 : k0_pay9 (F := Ideal) (k0_pay7 (F := Ideal) vs v) (k0_pay8 (F := Ideal) ks k q) b = head ks k vs v q b := rfl
/-- The third head's computation is `head`. -/
theorem head_2 : k0_pay12 (F := Ideal) (k0_pay10 (F := Ideal) vs v) (k0_pay11 (F := Ideal) ks k q) (Named.named κ "score_log2e" 0x3E8293EE#32) b = head ks k vs v q b := rfl

/-- The fourth head's computation is `head`, and the block is the four heads side by side, queries first. -/
theorem pay1_eq (h0 h1 h2 : FVec Ideal S32x300 .f32) :
    k0_pay1 (F := Ideal) h0 h1 h2 (k0_pay13 (F := Ideal) ks k) (k0_pay14 (F := Ideal) vs v) q b
      = shapeCast S1x300x128 (truncf .bf16 (transpose S300x128 [1, 0]
          (concatenate S128x300 0 [⟨S32x300, h0⟩, ⟨S32x300, h1⟩, ⟨S32x300, h2⟩, ⟨S32x300, head ks k vs v q b⟩]
            concatenates_S32x300_S32x300_S32x300_S32x300_S128x300_d0 : FVec Ideal S128x300 .f32)
          transposes_S128x300_p1_0_S300x128 : FVec Ideal S300x128 .f32) bitsLt_bf16_f32 : FVec Ideal S300x128 .bf16)
          shapeCasts_S300x128_S1x300x128 := rfl

/-- The block of four heads at query `n` and column `32 r + d` is head `r` at dimension `d`. -/
theorem pay1_apply (h : Fin 4 → FVec Ideal S32x300 .f32) (h3 : h 3 = head ks k vs v q b) (n : Fin 300) (r : Fin 4) (d : Fin 32)
    (j : Fin 128) (hj : j.val = 32 * r.val + d.val) :
    k0_pay1 (F := Ideal) (h 0) (h 1) (h 2) (k0_pay13 (F := Ideal) ks k) (k0_pay14 (F := Ideal) vs v) q b (ix3 0 n j)
      = h r (ix2 d n) := by
  rw [pay1_eq, ← h3]
  rw [shapeCast_apply _ _ (ix3 0 n j) (ix2 n j : S300x128.Idx) (by
    rw [Shape.rowMajor_val_three, Shape.rowMajor_val_two]
    show n.val * 128 + j.val = ((0 : Nat) * 300 + n.val) * 128 + j.val; omega)]
  show transpose S300x128 [1, 0]
          (concatenate S128x300 0 [⟨S32x300, h 0⟩, ⟨S32x300, h 1⟩, ⟨S32x300, h 2⟩, ⟨S32x300, h 3⟩]
            concatenates_S32x300_S32x300_S32x300_S32x300_S128x300_d0 : FVec Ideal S128x300 .f32)
          transposes_S128x300_p1_0_S300x128 (ix2 n j) = _
  rw [transpose_apply [1, 0] _ _ (ix2 n j) (ix2 j n : S128x300.Idx) (fun c => match c with | ⟨0, _⟩ => rfl | ⟨1, _⟩ => rfl)]
  have hd := d.isLt
  match r, hj with
  | ⟨0, _⟩, hj =>
    exact concatenate_apply_piece (0 : Fin S128x300.rank)
      [⟨S32x300, h 0⟩, ⟨S32x300, h 1⟩, ⟨S32x300, h 2⟩, ⟨S32x300, h 3⟩] _ (ix2 j n : S128x300.Idx) 0 (by decide : 0 < 4)
      S32x300 (h 0) rfl rfl 0 rfl (ix2 d n) (fun c hc => match c with | ⟨0, _⟩ => absurd rfl hc | ⟨1, _⟩ => rfl)
      (by show 0 + d.val = j.val; rw [hj]; show _ = 32 * 0 + _; omega)
  | ⟨1, _⟩, hj =>
    exact concatenate_apply_piece (0 : Fin S128x300.rank)
      [⟨S32x300, h 0⟩, ⟨S32x300, h 1⟩, ⟨S32x300, h 2⟩, ⟨S32x300, h 3⟩] _ (ix2 j n : S128x300.Idx) 1 (by decide : 1 < 4)
      S32x300 (h 1) rfl rfl 32 rfl (ix2 d n) (fun c hc => match c with | ⟨0, _⟩ => absurd rfl hc | ⟨1, _⟩ => rfl)
      (by show 32 + d.val = j.val; rw [hj]; show _ = 32 * 1 + _; omega)
  | ⟨2, _⟩, hj =>
    exact concatenate_apply_piece (0 : Fin S128x300.rank)
      [⟨S32x300, h 0⟩, ⟨S32x300, h 1⟩, ⟨S32x300, h 2⟩, ⟨S32x300, h 3⟩] _ (ix2 j n : S128x300.Idx) 2 (by decide : 2 < 4)
      S32x300 (h 2) rfl rfl 64 rfl (ix2 d n) (fun c hc => match c with | ⟨0, _⟩ => absurd rfl hc | ⟨1, _⟩ => rfl)
      (by show 64 + d.val = j.val; rw [hj]; show _ = 32 * 2 + _; omega)
  | ⟨3, _⟩, hj =>
    exact concatenate_apply_piece (0 : Fin S128x300.rank)
      [⟨S32x300, h 0⟩, ⟨S32x300, h 1⟩, ⟨S32x300, h 2⟩, ⟨S32x300, h 3⟩] _ (ix2 j n : S128x300.Idx) 3 (by decide : 3 < 4)
      S32x300 (h 3) rfl rfl 96 rfl (ix2 d n) (fun c hc => match c with | ⟨0, _⟩ => absurd rfl hc | ⟨1, _⟩ => rfl)
      (by show 96 + d.val = j.val; rw [hj]; show _ = 32 * 3 + _; omega)

/-- One head's output at dimension `d` and query `n`. -/
theorem head_apply (d : Fin 32) (n : Fin 300) (T : Fin 2048 → EReal)
    (hT : ∀ p, T p = (∑ d : Fin 32, (k (ix3 0 d p) * ks (ix3 0 0 p)) * q (ix3 0 d n)) * (scoreFactor : EReal) + b (ix2 p n)) :
    head ks k vs v q b (ix2 d n)
      = Ideal.div (∑ p : Fin 2048, (v (ix3 0 d p) * vs (ix3 0 0 p)) * Ideal.exp2 (T p - Finset.univ.fold max ⊥ T))
          (∑ p : Fin 2048, Ideal.exp2 (T p - Finset.univ.fold max ⊥ T)) := by
  unfold head
  rw [pay9_apply]
  simp only [pay8_apply, pay3_apply, ← hT]

end Cert.KernelIdeal.Head

end
-- ==== Proof.KernelMask.lean ====
/- The mask as the kernel keeps it: for each position and query, `0` where the position is allowed and `⊥` where it is not. -/
module

public import proofs.«01_k».proof.Proof.Mask
public import proofs.«01_k».proof.Proof.KernelHead

@[expose] public section

noncomputable section

namespace Cert.KernelIdeal.Mask

open Cert.KernelIdeal Cert.KernelIdeal.Gen Cert.Attention Idealize.ShloMosaic Idealize.ShloMosaic.ValueIdx

/-- Query `n`'s words in a block of mask words. -/
def words (x : Vec Ideal S1x64x300 .i32) (n : Fin 300) : Fin 64 → BitVec 32 := fun w => x (ix3 0 w n)

/-- The words after the block is read as 64 rows. -/
theorem rows_apply (x : Vec Ideal S1x64x300 .i32) (w : Fin 64) (n : Fin 300) :
    (shapeCast S64x300 x shapeCasts_S1x64x300_S64x300 : IVec S64x300 32) (ix2 w n) = words x n w :=
  shapeCast_apply x _ _ _ (by
    rw [Shape.rowMajor_val_three, Shape.rowMajor_val_two]
    show ((0 : Nat) * 64 + w.val) * 300 + n.val = w.val * 300 + n.val; omega)

/-- One where a word is zero, zero elsewhere. -/
def zeroFlags (x : Vec Ideal S1x64x300 .i32) : FVec Ideal S64x300 .f32 :=
  select (cmpi .eq (shapeCast S64x300 x shapeCasts_S1x64x300_S64x300 : IVec S64x300 32) (broadcast S64x300 0#32))
    (broadcast S64x300 (Scalar.ofBits .f32 0x3F800000#32 : Ideal .f32)) (broadcast S64x300 (Scalar.ofBits .f32 0x00000000#32 : Ideal .f32))

theorem zeroFlags_apply (x : Vec Ideal S1x64x300 .i32) (w : Fin 64) (n : Fin 300) :
    zeroFlags x (ix2 w n) = if words x n w = 0#32 then (1 : EReal) else 0 := by
  show Scalar.select (IntOp.cmpi .eq ((shapeCast S64x300 x shapeCasts_S1x64x300_S64x300 : IVec S64x300 32) (ix2 w n)) 0#32)
    (Ideal.ofBits .f32 0x3F800000#32) (Ideal.ofBits .f32 0x00000000#32) = _
  rw [rows_apply]
  have h1 : Ideal.ofBits .f32 0x3F800000#32 = 1 := by
    simp [Ideal.ofBits, Ideal.ieee]
    rw [← EReal.coe_mul]; norm_num
  rw [h1, Ideal.ofBits_zero_f32]
  by_cases h : words x n w = 0#32
  · rw [if_pos h, h]; rfl
  · rw [if_neg h]
    have : IntOp.cmpi .eq (words x n w) 0#32 = 0#1 := by
      show BitVec.ofBool (words x n w == 0#32) = 0#1
      rw [beq_eq_false_iff_ne.2 h]; rfl
    rw [this]; rfl

/-- One where all of a query's words are zero. -/
def emptyFlag (x : Vec Ideal S1x64x300 .i32) : IVec S300 1 :=
  cmpf .ogt (multiReduction .minimumf [0] S300 (zeroFlags x) 0x7F800000#32 reduces_S64x300_S300 (.inl rfl) rfl : FVec Ideal S300 .f32)
    (broadcast S300 (Scalar.ofBits .f32 0x00000000#32 : Ideal .f32))

theorem min_rows (x : FVec Ideal S64x300 .f32) (n : Fin 300) :
    multiReduction .minimumf [0] S300 x 0x7F800000#32 reduces_S64x300_S300 (.inl rfl) rfl (ix1 n)
      = Finset.univ.fold min ⊤ (fun w : Fin 64 => x (ix2 w n)) := by
  refine (multiReduction_minimumf_eq_fold x _ reduces_S64x300_S300 (.inl rfl) rfl (ix1 n)).trans ?_
  refine (reduces_S64x300_S300.fold_filter_drop_single _ _ x (ix1 n)).trans ?_
  show Finset.fold min (Ideal.ofBits .f32 0x7F800000#32) _ _ = _
  have h : Ideal.ofBits .f32 0x7F800000#32 = ⊤ := by simp [Ideal.ofBits, Ideal.ieee]
  rw [h]
  refine congrArg (fun f => Finset.univ.fold min ⊤ f) (funext fun w => congrArg x ?_)
  exact funext fun a => match a with | ⟨0, _⟩ => rfl | ⟨1, _⟩ => rfl

theorem emptyFlag_apply (x : Vec Ideal S1x64x300 .i32) (n : Fin 300) :
    emptyFlag x (ix1 n) = if ∀ w, words x n w = 0#32 then 1#1 else 0#1 := by
  unfold emptyFlag
  rw [cmpf_apply, broadcast_apply, min_rows, Ideal.cmpf_def]
  have hz : (Scalar.ofBits .f32 0x00000000#32 : Ideal .f32) = (0 : EReal) := Ideal.ofBits_zero_f32
  rw [hz]
  have hmin : (0 : EReal) < Finset.univ.fold min ⊤ (fun w : Fin 64 => zeroFlags x (ix2 w n)) ↔ ∀ w, words x n w = 0#32 := by
    rw [Finset.lt_fold_min]
    refine ⟨fun hh w => ?_, fun h => ⟨EReal.zero_lt_top, fun w _ => ?_⟩⟩
    · by_contra hw
      have := hh.2 w (Finset.mem_univ _)
      rw [zeroFlags_apply, if_neg hw] at this
      exact lt_irrefl _ this
    · rw [zeroFlags_apply, if_pos (h w)]; exact zero_lt_one
  unfold Ideal.cmp
  simp only [hmin]
  by_cases h : ∀ w, words x n w = 0#32
  · rw [if_pos h, decide_eq_true h]; rfl
  · rw [if_neg h, decide_eq_false h]; rfl

/-- The words with an empty query's replaced by ones. -/
def fullWords (x : Vec Ideal S1x64x300 .i32) : IVec S64x300 32 :=
  select (broadcastTo S64x300 (shapeCast S1x300 (shapeCast S1x300 (emptyFlag x) shapeCasts_S300_S1x300) shapeCasts_S1x300_S1x300)
      broadcasts_S1x300_S64x300)
    (broadcast S64x300 4294967295#32) (shapeCast S64x300 x shapeCasts_S1x64x300_S64x300 : IVec S64x300 32)

theorem fullWords_apply (x : Vec Ideal S1x64x300 .i32) (w : Fin 64) (n : Fin 300) :
    fullWords x (ix2 w n) = if ∀ w, words x n w = 0#32 then 4294967295#32 else words x n w := by
  show Scalar.select (broadcastTo S64x300 (shapeCast S1x300 (shapeCast S1x300 (emptyFlag x) shapeCasts_S300_S1x300) shapeCasts_S1x300_S1x300)
      broadcasts_S1x300_S64x300 (ix2 w n)) 4294967295#32 ((shapeCast S64x300 x shapeCasts_S1x64x300_S64x300 : IVec S64x300 32) (ix2 w n)) = _
  rw [rows_apply, shapeCast_self,
    broadcastTo_apply _ _ (ix2 w n) (ix2 0 n : S1x300.Idx) (fun a => match a with
      | ⟨0, _⟩ => rfl
      | ⟨1, _⟩ => by show n.val = if (300 : Nat) = 1 then 0 else n.val; rw [if_neg (by decide)]),
    shapeCast_apply _ _ (ix2 0 n : S1x300.Idx) (ix1 n : S300.Idx) (by
      rw [Shape.rowMajor_val_one, Shape.rowMajor_val_two]
      show n.val = 0 * 300 + n.val; omega),
    emptyFlag_apply]
  split_ifs <;> rfl

/-- The word with bit `j` alone, for every `j`. -/
def bits : IVec S1x32x1 32 := shli (broadcast S1x32x1 1#32) (iota .tc S1x32x1 32 [1] iota_S1x32x1_d1_w32)

theorem bits_apply (j : Fin 32) : bits (ix3 0 j 0) = 1#32 <<< BitVec.ofNat 32 j.val := by
  show IntOp.shli .vector 1#32 (iota .tc S1x32x1 32 [1] iota_S1x32x1_d1_w32 (ix3 0 j 0)) = _
  rw [iota_single_apply]
  show (if (BitVec.ofNat 32 j.val).toNat < 32 then _ else _) = _
  rw [if_pos (by rw [BitVec.toNat_ofNat, Nat.mod_eq_of_lt (by have := j.isLt; omega)]; exact j.isLt)]

/-- The mask the kernel keeps is `0` at an allowed position and `⊥` at the others. -/
theorem pay2_apply (x : Vec Ideal S1x64x300 .i32) (p : Fin 2048) (n : Fin 300) :
    k0_pay2 (F := Ideal) x (ix2 p n) = if allowed (words x n) p then (0 : EReal) else ⊥ := by
  have hp := p.isLt
  have hn := n.isLt
  let w : Fin 64 := ⟨p.val / 32, by omega⟩
  let j : Fin 32 := ⟨p.val % 32, by omega⟩
  let t : FVec Ideal S64x32x300 .f32 := select (cmpi .ne (andi
        (broadcastTo S64x32x300 (shapeCast S64x1x300 (fullWords x) shapeCasts_S64x300_S64x1x300) broadcasts_S64x1x300_S64x32x300)
        (broadcastTo S64x32x300 bits broadcasts_S1x32x1_S64x32x300)) (broadcast S64x32x300 0#32))
      (broadcast S64x32x300 (Scalar.ofBits .f32 0x00000000#32 : Ideal .f32)) (broadcast S64x32x300 (Scalar.ofBits .f32 0xFF800000#32 : Ideal .f32))
  show shapeCast S2048x300 (shapeCast S2048x300 t shapeCasts_S64x32x300_S2048x300) shapeCasts_S2048x300_S2048x300 (ix2 p n) = _
  rw [shapeCast_self, shapeCast_apply t _ (ix2 p n) (ix3 w j n : S64x32x300.Idx) (by
    rw [Shape.rowMajor_val_three, Shape.rowMajor_val_two]
    show (p.val / 32 * 32 + p.val % 32) * 300 + n.val = p.val * 300 + n.val; omega)]
  show Scalar.select (IntOp.cmpi .ne
      (broadcastTo S64x32x300 (shapeCast S64x1x300 (fullWords x) shapeCasts_S64x300_S64x1x300) broadcasts_S64x1x300_S64x32x300 (ix3 w j n)
        &&& broadcastTo S64x32x300 bits broadcasts_S1x32x1_S64x32x300 (ix3 w j n)) 0#32)
    (Ideal.ofBits .f32 0x00000000#32) (Ideal.ofBits .f32 0xFF800000#32) = _
  rw [broadcastTo_apply _ _ (ix3 w j n) (ix3 w 0 n : S64x1x300.Idx) (fun a => match a with
      | ⟨0, _⟩ => by show w.val = if (64 : Nat) = 1 then 0 else w.val; rw [if_neg (by decide)]
      | ⟨1, _⟩ => rfl
      | ⟨2, _⟩ => by show n.val = if (300 : Nat) = 1 then 0 else n.val; rw [if_neg (by decide)]),
    shapeCast_apply (fullWords x) _ (ix3 w 0 n : S64x1x300.Idx) (ix2 w n : S64x300.Idx) (by
      rw [Shape.rowMajor_val_three, Shape.rowMajor_val_two]
      show w.val * 300 + n.val = (w.val * 1 + 0) * 300 + n.val; omega),
    broadcastTo_apply bits _ (ix3 w j n) (ix3 0 j 0 : S1x32x1.Idx) (fun a => match a with
      | ⟨0, _⟩ => rfl
      | ⟨1, _⟩ => by show j.val = if (32 : Nat) = 1 then 0 else j.val; rw [if_neg (by decide)]
      | ⟨2, _⟩ => rfl),
    fullWords_apply, bits_apply, Ideal.ofBits_zero_f32, Head.ofBits_neg_inf]
  have key : ((if ∀ w, words x n w = 0#32 then 4294967295#32 else words x n w) &&& (1#32 <<< BitVec.ofNat 32 j.val)) ≠ 0#32
      ↔ allowed (words x n) p := by
    rw [and_bit_ne_zero _ _ j.isLt]
    unfold allowed
    by_cases h : ∀ w, words x n w = 0#32
    · rw [if_pos h]; exact ⟨fun _ => Or.inl h, fun _ => ones_bit _ j.isLt⟩
    · rw [if_neg h]; exact ⟨fun hb => Or.inr hb, fun hb => hb.resolve_left h⟩
  by_cases h : allowed (words x n) p
  · rw [if_pos h]
    show Scalar.select (BitVec.ofBool (_ != 0#32)) _ _ = _
    rw [bne_iff_ne.2 (key.2 h)]; rfl
  · rw [if_neg h]
    show Scalar.select (BitVec.ofBool (_ != 0#32)) _ _ = _
    have e := not_not.1 (fun hh => h (key.1 hh))
    rw [e]; rfl

end Cert.KernelIdeal.Mask

end
-- ==== Proof.KernelBlock.lean ====
module

public import proofs.«01_k».proof.Proof.KernelMask
public import proofs.«01_k».proof.Proof.Gen.KernelIdeal.Frame
public import Idealize.ShloMosaic.Lib.VecWindow
public import Idealize.ShloMosaic.Lib.Tactic

/-!
# What one grid point of the kernel leaves in its output block and in its scratch

A grid point is one image and one group of four heads.  Its first group writes the bias array of the image
into the scratch; every group reads it.  The output block is the four heads' results side by side.
-/

@[expose] public section

noncomputable section

namespace Cert.KernelIdeal.Block

open Cert.KernelIdeal Cert.KernelIdeal.Gen Cert.Attention Idealize.ShloMosaic Idealize.ShloMosaic.ValueIdx Idealize.ShloMosaic.TcCoe

/-- The row of a scale block that head `r` of the point's group reads. -/
def scaleRow (i : grid0.Coords) (x : Vec Ideal S1x16x2048 .f32) (r : Fin 4) : Vec Ideal S1x1x2048 .f32 :=
  View.ld x (Rect.unit (s := S1x16x2048) (k0_off1 i (BitVec.ofNat 32 r.val)) S1x1x2048.size (k0_off1_inb i r))

theorem rows_inb (r : Fin 4) : ∀ a, (![0, 32 * r.val, 0] : Fin 3 → Nat) a + S1x32x2048.size a ≤ S1x128x2048.size a := by
  revert r; decide

theorem queries_inb (r : Fin 4) : ∀ a, (![0, 32 * r.val, 0] : Fin 3 → Nat) a + S1x32x300.size a ≤ S1x128x300.size a := by
  revert r; decide

/-- The 32 code rows that head `r` of the point's group reads. -/
def codeRows (x : Vec Ideal S1x128x2048 .fp8e4m3) (r : Fin 4) : Vec Ideal S1x32x2048 .fp8e4m3 :=
  View.ld x (Rect.unit (s := S1x128x2048) ![0, 32 * r.val, 0] S1x32x2048.size (rows_inb r))

/-- The 32 query rows that head `r` of the point's group reads. -/
def queryRows (x : Vec Ideal S1x128x300 .bf16) (r : Fin 4) : Vec Ideal S1x32x300 .bf16 :=
  View.ld x (Rect.unit (s := S1x128x300) ![0, 32 * r.val, 0] S1x32x300.size (queries_inb r))

/-- Head `r` of the point's group, from the point's blocks and the bias array. -/
def headOf (i : grid0.Coords) (x0 : Vec Ideal S1x128x300 .bf16) (x1 : Vec Ideal S1x128x2048 .fp8e4m3) (x2 : Vec Ideal S1x16x2048 .f32)
    (x3 : Vec Ideal S1x128x2048 .fp8e4m3) (x4 : Vec Ideal S1x16x2048 .f32) (b : Vec Ideal S2048x300 .f32) (r : Fin 4) : FVec Ideal S32x300 .f32 :=
  Head.head (scaleRow i x2 r) (codeRows x1 r) (scaleRow i x4 r) (codeRows x3 r) (queryRows x0 r) b

/-- The output block of a grid point, from the point's blocks and the bias array. -/
def blockOf (i : grid0.Coords) (x0 : Vec Ideal S1x128x300 .bf16) (x1 : Vec Ideal S1x128x2048 .fp8e4m3) (x2 : Vec Ideal S1x16x2048 .f32)
    (x3 : Vec Ideal S1x128x2048 .fp8e4m3) (x4 : Vec Ideal S1x16x2048 .f32) (b : Vec Ideal S2048x300 .f32) : Vec Ideal S1x300x128 .bf16 :=
  k0_pay1 (F := Ideal) (headOf i x0 x1 x2 x3 x4 b 0) (headOf i x0 x1 x2 x3 x4 b 1) (headOf i x0 x1 x2 x3 x4 b 2)
    (k0_pay13 (F := Ideal) (scaleRow i x2 3) (codeRows x1 3)) (k0_pay14 (F := Ideal) (scaleRow i x4 3) (codeRows x3 3)) (queryRows x0 3) b

/-- The output block at query `n` and column `32 r + d` is head `r` at `(d, n)`. -/
theorem blockOf_apply (i : grid0.Coords) (x0 : Vec Ideal S1x128x300 .bf16) (x1 : Vec Ideal S1x128x2048 .fp8e4m3) (x2 : Vec Ideal S1x16x2048 .f32)
    (x3 : Vec Ideal S1x128x2048 .fp8e4m3) (x4 : Vec Ideal S1x16x2048 .f32) (b : Vec Ideal S2048x300 .f32)
    (n : Fin 300) (r : Fin 4) (d : Fin 32) (j : Fin 128) (hj : j.val = 32 * r.val + d.val) :
    blockOf i x0 x1 x2 x3 x4 b (ix3 0 n j) = headOf i x0 x1 x2 x3 x4 b r (ix2 d n) :=
  Head.pay1_apply _ _ _ _ _ _ (headOf i x0 x1 x2 x3 x4 b) rfl n r d j hj

section
variable (c : Dev nD) (i : grid0.Coords) (arg2 : Memref sig .tc .vmem S1x128x300 .bf16) (harg2 : arg2.IsWhole) (arg3 : Memref sig .tc .vmem S1x128x2048 .fp8e4m3) (harg3 : arg3.IsWhole) (arg4 : Memref sig .tc .vmem S1x16x2048 .f32) (harg4 : arg4.IsWhole) (arg5 : Memref sig .tc .vmem S1x128x2048 .fp8e4m3) (harg5 : arg5.IsWhole) (arg6 : Memref sig .tc .vmem S1x16x2048 .f32) (harg6 : arg6.IsWhole) (arg7 : Memref sig .tc .vmem S1x64x300 .i32) (harg7 : arg7.IsWhole) (arg8 : Memref sig .tc .vmem S1x300x128 .bf16) (harg8 : arg8.IsWhole) (arg9 : Memref sig .tc .vmem S2048x300 .f32) (harg9 : arg9.IsWhole)
    (x0 : Vec Ideal S1x128x300 .bf16) (x1 : Vec Ideal S1x128x2048 .fp8e4m3) (x2 : Vec Ideal S1x16x2048 .f32) (x3 : Vec Ideal S1x128x2048 .fp8e4m3) (x4 : Vec Ideal S1x16x2048 .f32) (x5 : Vec Ideal S1x64x300 .i32)

theorem zero3 : (![0, 0, 0] : Fin 3 → Nat) = fun _ => 0 := by funext a; fin_cases a <;> rfl
theorem zero2 : (![0, 0] : Fin 2 → Nat) = fun _ => 0 := by funext a; fin_cases a <;> rfl

/-- The first group of an image leaves the image's bias array in the scratch. -/
theorem scratch_first (hc0 : cond0_0 i) :
    sout0_A_0 c i arg2 harg2 arg3 harg3 arg4 harg4 arg5 harg5 arg6 harg6 arg7 harg7 arg8 harg8 arg9 harg9 hc0 x0 x1 x2 x3 x4 x5 = k0_pay2 (F := Ideal) x5 := by
  unfold sout0_A_0
  rw [View.read_writes_eq_canon _ _ _ (scover0_A_0 c i arg2 harg2 arg3 harg3 arg4 harg4 arg5 harg5 arg6 harg6 arg7 harg7 arg8 harg8 arg9 harg9 hc0 x0 x1 x2 x3 x4 x5)]
  unfold kernelRun0_A
  dsimp only
  sl_unfold_words
  rw [View.canon_unit_zero zero2]
  simp only [View.readAt_eq_ld, harg7.read_unread, View.ld_unit_zero (S := S1x64x300) zero3]

/-- The first group of an image computes its output block with the bias array it has just written. -/
theorem out_first (hc0 : cond0_0 i) :
    out0_A_6 c i arg2 harg2 arg3 harg3 arg4 harg4 arg5 harg5 arg6 harg6 arg7 harg7 arg8 harg8 arg9 harg9 hc0 x0 x1 x2 x3 x4 x5 = blockOf i x0 x1 x2 x3 x4 (k0_pay2 (F := Ideal) x5) := by
  unfold out0_A_6
  rw [View.read_writes_eq_canon _ _ _ (cover0_A_6 c i arg2 harg2 arg3 harg3 arg4 harg4 arg5 harg5 arg6 harg6 arg7 harg7 arg8 harg8 arg9 harg9 hc0 x0 x1 x2 x3 x4 x5)]
  unfold kernelRun0_A
  dsimp only
  sl_unfold_words
  rw [View.canon_unit_zero zero3]
  simp only [View.readCov_unit_zero (S := S2048x300) _ zero2, View.readAt_eq_ld, harg2.read_unread, harg3.read_unread, harg4.read_unread, harg5.read_unread, harg6.read_unread, harg7.read_unread, View.ld_unit_zero (S := S1x64x300) zero3]
  rfl

/-- A later group of an image computes its output block with the bias array it finds in the scratch. -/
theorem out_later (hc0 : ¬ cond0_0 i) (xs0 : Vec Ideal S2048x300 .f32) :
    out0_B_6 c i arg2 harg2 arg3 harg3 arg4 harg4 arg5 harg5 arg6 harg6 arg7 harg7 arg8 harg8 arg9 harg9 hc0 x0 x1 x2 x3 x4 x5 xs0 = blockOf i x0 x1 x2 x3 x4 xs0 := by
  unfold out0_B_6
  rw [View.read_writes_eq_canon _ _ _ (cover0_B_6 c i arg2 harg2 arg3 harg3 arg4 harg4 arg5 harg5 arg6 harg6 arg7 harg7 arg8 harg8 arg9 harg9 hc0 x0 x1 x2 x3 x4 x5 xs0)]
  unfold kernelRun0_B
  dsimp only
  sl_unfold_words
  rw [View.canon_unit_zero zero3]
  simp only [View.readAt_eq_ld, harg2.read_unread, harg3.read_unread, harg4.read_unread, harg5.read_unread, harg6.read_unread, harg7.read_unread, harg9.read_unread, View.ld_unit_zero (S := S2048x300) zero2]
  rfl

end

end Cert.KernelIdeal.Block

end
-- ==== Proof.KernelInputs.lean ====
module

public import proofs.«01_k».proof.Proof.KernelBlock
public import proofs.«01_k».proof.Proof.Gen.KernelIdeal.Value

/-!
# What a grid point of the kernel reads

The wrapper moves the position axis of every argument last and merges heads and dimensions.  Here the blocks a
grid point is handed are read, entry by entry, off the arguments.  Point `t` is image `t / 4`, heads
`4 (t % 4) … 4 (t % 4) + 3`.
-/

@[expose] public section

noncomputable section

namespace Cert.KernelIdeal.Inputs

open Cert.KernelIdeal Cert.KernelIdeal.Gen Cert.KernelIdeal.Block Cert.Attention
open Idealize.ShloMosaic Idealize.ShloMosaic.ValueIdx Idealize.ShloMosaic.TcCoe Idealize.ShloMosaic.StableHlo

variable (m : (x : Loc nD τ sig) → Buf (Elt Ideal) x)

/-- A column of a merged array: head times 32 plus dimension. -/
def col (h : Fin 16) (d : Fin 32) : Fin 512 := ⟨32 * h.val + d.val, by omega⟩

/-- The queries as the kernel is handed them: `(image, head·32 + dim, query)`. -/
theorem queries_apply (c : Dev nD) (b : Fin 20) (h : Fin 16) (d : Fin 32) (n : Fin 300) :
    (V m c main_v2 : S20x512x300.Idx → EReal) (ix3 b (col h d) n) = (m (c.tc.loc main_arg0) : S20x300x16x32.Idx → EReal) (ix4 b n h d) := by
  have e : (V m c main_v2 : S20x512x300.Idx → EReal) = shapeCast S20x512x300 (transpose S20x16x32x300 [0, 2, 3, 1] ((m (c.tc.loc main_arg0) : S20x300x16x32.Idx → EReal) : S20x300x16x32.Idx → EReal) transposes_S20x300x16x32_S20x16x32x300_0_2_3_1) shapeCasts_S20x16x32x300_S20x512x300 := by
    unfold V
    after_results
    rfl
  rw [e]
  refine (shapeCast_apply _ _ _ (ix4 b h d n) ?_).trans (transpose_apply _ _ _ _ (ix4 b n h d) ?_)
  · rw [Shape.rowMajor_val_four, Shape.rowMajor_val_three]
    show ((b.val * 16 + h.val) * 32 + d.val) * 300 + n.val = (b.val * 512 + (32 * h.val + d.val)) * 300 + n.val
    omega
  · intro a; fin_cases a <;> rfl

/-- The key codes as the kernel is handed them: `(image, head·32 + dim, position)`. -/
theorem keys_apply (c : Dev nD) (b : Fin 20) (h : Fin 16) (d : Fin 32) (p : Fin 2048) :
    (V m c main_v4 : S20x512x2048.Idx → EReal) (ix3 b (col h d) p) = (bitcastToFloat (F := Ideal) .fp8e4m3 (m (c.tc.loc main_arg1) : S20x2048x16x32.Idx → BitVec 8) : S20x2048x16x32.Idx → EReal) (ix4 b p h d) := by
  have e : (V m c main_v4 : S20x512x2048.Idx → EReal) = shapeCast S20x512x2048 (transpose S20x16x32x2048 [0, 2, 3, 1] ((bitcastToFloat (F := Ideal) .fp8e4m3 (m (c.tc.loc main_arg1) : S20x2048x16x32.Idx → BitVec 8) : S20x2048x16x32.Idx → EReal) : S20x2048x16x32.Idx → EReal) transposes_S20x2048x16x32_S20x16x32x2048_0_2_3_1) shapeCasts_S20x16x32x2048_S20x512x2048 := by
    unfold V
    after_results
    rfl
  rw [e]
  refine (shapeCast_apply _ _ _ (ix4 b h d p) ?_).trans (transpose_apply _ _ _ _ (ix4 b p h d) ?_)
  · rw [Shape.rowMajor_val_four, Shape.rowMajor_val_three]
    show ((b.val * 16 + h.val) * 32 + d.val) * 2048 + p.val = (b.val * 512 + (32 * h.val + d.val)) * 2048 + p.val
    omega
  · intro a; fin_cases a <;> rfl

/-- The value codes as the kernel is handed them: `(image, head·32 + dim, position)`. -/
theorem values_apply (c : Dev nD) (b : Fin 20) (h : Fin 16) (d : Fin 32) (p : Fin 2048) :
    (V m c main_v6 : S20x512x2048.Idx → EReal) (ix3 b (col h d) p) = (m (c.tc.loc main_arg3) : S20x2048x16x32.Idx → EReal) (ix4 b p h d) := by
  have e : (V m c main_v6 : S20x512x2048.Idx → EReal) = shapeCast S20x512x2048 (transpose S20x16x32x2048 [0, 2, 3, 1] ((m (c.tc.loc main_arg3) : S20x2048x16x32.Idx → EReal) : S20x2048x16x32.Idx → EReal) transposes_S20x2048x16x32_S20x16x32x2048_0_2_3_1) shapeCasts_S20x16x32x2048_S20x512x2048 := by
    unfold V
    after_results
    rfl
  rw [e]
  refine (shapeCast_apply _ _ _ (ix4 b h d p) ?_).trans (transpose_apply _ _ _ _ (ix4 b p h d) ?_)
  · rw [Shape.rowMajor_val_four, Shape.rowMajor_val_three]
    show ((b.val * 16 + h.val) * 32 + d.val) * 2048 + p.val = (b.val * 512 + (32 * h.val + d.val)) * 2048 + p.val
    omega
  · intro a; fin_cases a <;> rfl

/-- The key scales as the kernel is handed them: `(image, head, position)`. -/
theorem keyScale_apply (c : Dev nD) (b : Fin 20) (h : Fin 16) (p : Fin 2048) :
    (V m c main_v7 : S20x16x2048.Idx → EReal) (ix3 b h p) = (m (c.tc.loc main_arg2) : S20x2048x16.Idx → EReal) (ix3 b p h) := by
  have e : (V m c main_v7 : S20x16x2048.Idx → EReal) = transpose S20x16x2048 [0, 2, 1] (m (c.tc.loc main_arg2) : S20x2048x16.Idx → EReal) transposes_S20x2048x16_S20x16x2048_0_2_1 := by
    unfold V
    after_results
  rw [e]
  refine transpose_apply _ _ _ _ (ix3 b p h) ?_
  intro a; fin_cases a <;> rfl

/-- The value scales as the kernel is handed them: `(image, head, position)`. -/
theorem valueScale_apply (c : Dev nD) (b : Fin 20) (h : Fin 16) (p : Fin 2048) :
    (V m c main_v8 : S20x16x2048.Idx → EReal) (ix3 b h p) = (m (c.tc.loc main_arg4) : S20x2048x16.Idx → EReal) (ix3 b p h) := by
  have e : (V m c main_v8 : S20x16x2048.Idx → EReal) = transpose S20x16x2048 [0, 2, 1] (m (c.tc.loc main_arg4) : S20x2048x16.Idx → EReal) transposes_S20x2048x16_S20x16x2048_0_2_1 := by
    unfold V
    after_results
  rw [e]
  refine transpose_apply _ _ _ _ (ix3 b p h) ?_
  intro a; fin_cases a <;> rfl

/-- The mask words as the kernel is handed them: `(image, word, query)`. -/
theorem words_apply (c : Dev nD) (b : Fin 20) (w : Fin 64) (n : Fin 300) :
    (V m c main_v9 : S20x64x300.Idx → BitVec 32) (ix3 b w n) = (m (c.tc.loc main_arg5) : S20x300x64.Idx → BitVec 32) (ix3 b n w) := by
  have e : (V m c main_v9 : S20x64x300.Idx → BitVec 32) = transpose S20x64x300 [0, 2, 1] (m (c.tc.loc main_arg5) : S20x300x64.Idx → BitVec 32) transposes_S20x300x64_S20x64x300_0_2_1 := by
    unfold V
    after_results
  rw [e]
  refine transpose_apply _ _ _ _ (ix3 b n w) ?_
  intro a; fin_cases a <;> rfl

/-! ## The blocks of a grid point -/

/-- The image a grid point works on. -/
def image (t : Fin cfg0.N) : Fin 20 := ⟨t.val / 4, by have : t.val < 80 := lt_of_lt_of_eq t.isLt N_0; omega⟩

/-- Head `r` of the group of heads a grid point works on. -/
def headNo (t : Fin cfg0.N) (r : Fin 4) : Fin 16 := ⟨4 * (t.val % 4) + r.val, by omega⟩

/-- The second coordinate of a grid point is its group of heads. -/
theorem group_val (t : Fin cfg0.N) : (grid0.coords t 1).val = t.val % 4 := by
  have e : (grid0.coords t 1).val = t.val / 1 % 4 := Pipeline.Grid.coords_val t 1 (by decide) rfl
  rw [e, Nat.div_one]

theorem index_queries : ∀ t : Fin cfg0.N, win0_0.index t = ![t.val / 4, t.val % 4, 0] := (by decide +kernel : ∀ t : Fin grid0.N, _)
theorem index_keys : ∀ t : Fin cfg0.N, win0_1.index t = ![t.val / 4, t.val % 4, 0] := (by decide +kernel : ∀ t : Fin grid0.N, _)
theorem index_keyScale : ∀ t : Fin cfg0.N, win0_2.index t = ![t.val / 4, 0, 0] := (by decide +kernel : ∀ t : Fin grid0.N, _)
theorem index_values : ∀ t : Fin cfg0.N, win0_3.index t = ![t.val / 4, t.val % 4, 0] := (by decide +kernel : ∀ t : Fin grid0.N, _)
theorem index_valueScale : ∀ t : Fin cfg0.N, win0_4.index t = ![t.val / 4, 0, 0] := (by decide +kernel : ∀ t : Fin grid0.N, _)
theorem index_words : ∀ t : Fin cfg0.N, win0_5.index t = ![t.val / 4, 0, 0] := (by decide +kernel : ∀ t : Fin grid0.N, _)

/-- The queries of head `r` of a grid point. -/
theorem queryRows_iblk (c : Dev nD) (t : Fin cfg0.N) (r : Fin 4) (d : Fin 32) (n : Fin 300) :
    queryRows (iblk m c 0 t) r (ix3 0 d n) = (m (c.tc.loc main_arg0) : S20x300x16x32.Idx → EReal) (ix4 (image t) n (headNo t r) d) := by
  rw [← queries_apply m c (image t) (headNo t r) d n]
  have e := index_queries t
  have e0 : win0_0.index t (0 : Fin 3) = t.val / 4 := congrFun e 0
  have e1 : win0_0.index t (1 : Fin 3) = t.val % 4 := congrFun e 1
  have e2 : win0_0.index t (2 : Fin 3) = 0 := congrFun e 2
  refine congrArg (V m c main_v2 : S20x512x300.Idx → EReal) (funext fun a => Fin.ext ?_)
  match a with
  | ⟨0, _⟩ => show win0_0.index t (0 : Fin 3) * 1 + 1 * (0 + 1 * 0) = t.val / 4; rw [e0]; omega
  | ⟨1, _⟩ => show win0_0.index t (1 : Fin 3) * 128 + 1 * (32 * r.val + 1 * d.val) = 32 * (4 * (t.val % 4) + r.val) + d.val; rw [e1]; omega
  | ⟨2, _⟩ => show win0_0.index t (2 : Fin 3) * 300 + 1 * (0 + 1 * n.val) = n.val; rw [e2]; omega

/-- The key codes of head `r` of a grid point. -/
theorem keyRows_iblk (c : Dev nD) (t : Fin cfg0.N) (r : Fin 4) (d : Fin 32) (p : Fin 2048) :
    codeRows (iblk m c 1 t) r (ix3 0 d p) = (bitcastToFloat (F := Ideal) .fp8e4m3 (m (c.tc.loc main_arg1) : S20x2048x16x32.Idx → BitVec 8) : S20x2048x16x32.Idx → EReal) (ix4 (image t) p (headNo t r) d) := by
  rw [← keys_apply m c (image t) (headNo t r) d p]
  have e := index_keys t
  have e0 : win0_1.index t (0 : Fin 3) = t.val / 4 := congrFun e 0
  have e1 : win0_1.index t (1 : Fin 3) = t.val % 4 := congrFun e 1
  have e2 : win0_1.index t (2 : Fin 3) = 0 := congrFun e 2
  refine congrArg (V m c main_v4 : S20x512x2048.Idx → EReal) (funext fun a => Fin.ext ?_)
  match a with
  | ⟨0, _⟩ => show win0_1.index t (0 : Fin 3) * 1 + 1 * (0 + 1 * 0) = t.val / 4; rw [e0]; omega
  | ⟨1, _⟩ => show win0_1.index t (1 : Fin 3) * 128 + 1 * (32 * r.val + 1 * d.val) = 32 * (4 * (t.val % 4) + r.val) + d.val; rw [e1]; omega
  | ⟨2, _⟩ => show win0_1.index t (2 : Fin 3) * 2048 + 1 * (0 + 1 * p.val) = p.val; rw [e2]; omega

/-- The value codes of head `r` of a grid point. -/
theorem valueRows_iblk (c : Dev nD) (t : Fin cfg0.N) (r : Fin 4) (d : Fin 32) (p : Fin 2048) :
    codeRows (iblk m c 3 t) r (ix3 0 d p) = (m (c.tc.loc main_arg3) : S20x2048x16x32.Idx → EReal) (ix4 (image t) p (headNo t r) d) := by
  rw [← values_apply m c (image t) (headNo t r) d p]
  have e := index_values t
  have e0 : win0_3.index t (0 : Fin 3) = t.val / 4 := congrFun e 0
  have e1 : win0_3.index t (1 : Fin 3) = t.val % 4 := congrFun e 1
  have e2 : win0_3.index t (2 : Fin 3) = 0 := congrFun e 2
  refine congrArg (V m c main_v6 : S20x512x2048.Idx → EReal) (funext fun a => Fin.ext ?_)
  match a with
  | ⟨0, _⟩ => show win0_3.index t (0 : Fin 3) * 1 + 1 * (0 + 1 * 0) = t.val / 4; rw [e0]; omega
  | ⟨1, _⟩ => show win0_3.index t (1 : Fin 3) * 128 + 1 * (32 * r.val + 1 * d.val) = 32 * (4 * (t.val % 4) + r.val) + d.val; rw [e1]; omega
  | ⟨2, _⟩ => show win0_3.index t (2 : Fin 3) * 2048 + 1 * (0 + 1 * p.val) = p.val; rw [e2]; omega

/-- The key scales of head `r` of a grid point. -/
theorem keyScale_iblk (c : Dev nD) (t : Fin cfg0.N) (r : Fin 4) (p : Fin 2048) :
    scaleRow (grid0.coords t) (iblk m c 2 t) r (ix3 0 0 p) = (m (c.tc.loc main_arg2) : S20x2048x16.Idx → EReal) (ix3 (image t) p (headNo t r)) := by
  rw [← keyScale_apply m c (image t) (headNo t r) p]
  have e := index_keyScale t
  have e0 : win0_2.index t (0 : Fin 3) = t.val / 4 := congrFun e 0
  have e1 : win0_2.index t (1 : Fin 3) = 0 := congrFun e 1
  have e2 : win0_2.index t (2 : Fin 3) = 0 := congrFun e 2
  have o := k0_off1_eq (grid0.coords t) r
  have o0 : k0_off1 (grid0.coords t) (BitVec.ofNat 32 r.val) 0 = 0 := congrFun o 0
  have o1 : k0_off1 (grid0.coords t) (BitVec.ofNat 32 r.val) 1 = 4 * (grid0.coords t 1).val + r.val := congrFun o 1
  have o2 : k0_off1 (grid0.coords t) (BitVec.ofNat 32 r.val) 2 = 0 := congrFun o 2
  rw [group_val] at o1
  refine congrArg (V m c main_v7 : S20x16x2048.Idx → EReal) (funext fun a => Fin.ext ?_)
  match a with
  | ⟨0, _⟩ => show win0_2.index t (0 : Fin 3) * 1 + 1 * (k0_off1 (grid0.coords t) (BitVec.ofNat 32 r.val) 0 + 1 * 0) = t.val / 4; rw [e0, o0]; omega
  | ⟨1, _⟩ => show win0_2.index t (1 : Fin 3) * 16 + 1 * (k0_off1 (grid0.coords t) (BitVec.ofNat 32 r.val) 1 + 1 * 0) = 4 * (t.val % 4) + r.val; rw [e1, o1]; omega
  | ⟨2, _⟩ => show win0_2.index t (2 : Fin 3) * 2048 + 1 * (k0_off1 (grid0.coords t) (BitVec.ofNat 32 r.val) 2 + 1 * p.val) = p.val; rw [e2, o2]; omega

/-- The value scales of head `r` of a grid point. -/
theorem valueScale_iblk (c : Dev nD) (t : Fin cfg0.N) (r : Fin 4) (p : Fin 2048) :
    scaleRow (grid0.coords t) (iblk m c 4 t) r (ix3 0 0 p) = (m (c.tc.loc main_arg4) : S20x2048x16.Idx → EReal) (ix3 (image t) p (headNo t r)) := by
  rw [← valueScale_apply m c (image t) (headNo t r) p]
  have e := index_valueScale t
  have e0 : win0_4.index t (0 : Fin 3) = t.val / 4 := congrFun e 0
  have e1 : win0_4.index t (1 : Fin 3) = 0 := congrFun e 1
  have e2 : win0_4.index t (2 : Fin 3) = 0 := congrFun e 2
  have o := k0_off1_eq (grid0.coords t) r
  have o0 : k0_off1 (grid0.coords t) (BitVec.ofNat 32 r.val) 0 = 0 := congrFun o 0
  have o1 : k0_off1 (grid0.coords t) (BitVec.ofNat 32 r.val) 1 = 4 * (grid0.coords t 1).val + r.val := congrFun o 1
  have o2 : k0_off1 (grid0.coords t) (BitVec.ofNat 32 r.val) 2 = 0 := congrFun o 2
  rw [group_val] at o1
  refine congrArg (V m c main_v8 : S20x16x2048.Idx → EReal) (funext fun a => Fin.ext ?_)
  match a with
  | ⟨0, _⟩ => show win0_4.index t (0 : Fin 3) * 1 + 1 * (k0_off1 (grid0.coords t) (BitVec.ofNat 32 r.val) 0 + 1 * 0) = t.val / 4; rw [e0, o0]; omega
  | ⟨1, _⟩ => show win0_4.index t (1 : Fin 3) * 16 + 1 * (k0_off1 (grid0.coords t) (BitVec.ofNat 32 r.val) 1 + 1 * 0) = 4 * (t.val % 4) + r.val; rw [e1, o1]; omega
  | ⟨2, _⟩ => show win0_4.index t (2 : Fin 3) * 2048 + 1 * (k0_off1 (grid0.coords t) (BitVec.ofNat 32 r.val) 2 + 1 * p.val) = p.val; rw [e2, o2]; omega

/-- The mask words of a query of a grid point's image. -/
theorem words_iblk (c : Dev nD) (t : Fin cfg0.N) (n : Fin 300) :
    Mask.words (iblk m c 5 t) n = fun w => (m (c.tc.loc main_arg5) : S20x300x64.Idx → BitVec 32) (ix3 (image t) n w) := by
  funext w
  rw [← words_apply m c (image t) w n]
  have e := index_words t
  have e0 : win0_5.index t (0 : Fin 3) = t.val / 4 := congrFun e 0
  have e1 : win0_5.index t (1 : Fin 3) = 0 := congrFun e 1
  have e2 : win0_5.index t (2 : Fin 3) = 0 := congrFun e 2
  refine congrArg (V m c main_v9 : S20x64x300.Idx → BitVec 32) (funext fun a => Fin.ext ?_)
  match a with
  | ⟨0, _⟩ => show win0_5.index t (0 : Fin 3) * 1 + 1 * 0 = t.val / 4; rw [e0]; omega
  | ⟨1, _⟩ => show win0_5.index t (1 : Fin 3) * 64 + 1 * w.val = w.val; rw [e1]; omega
  | ⟨2, _⟩ => show win0_5.index t (2 : Fin 3) * 300 + 1 * n.val = n.val; rw [e2]; omega

end Cert.KernelIdeal.Inputs

end
-- ==== Proof.KernelArray.lean ====
module

public import proofs.«01_k».proof.Proof.KernelInputs

/-!
# What the kernel leaves in its result

The scratch holds, after every grid point, the bias array of that point's image (`scratch_eq`), so every point
computes its heads with the right bias, and the result array is read off the points' blocks (`result_apply`).
-/

@[expose] public section

noncomputable section

namespace Cert.KernelIdeal.Array

open Cert.KernelIdeal Cert.KernelIdeal.Gen Cert.KernelIdeal.Block Cert.KernelIdeal.Inputs Cert.Attention
open Idealize.ShloMosaic Idealize.ShloMosaic.ValueIdx Idealize.ShloMosaic.TcCoe

/-- The base-two exponent the kernel forms for image `b`, head `h`, query `n` and position `p`, from queries, key codes,
    key scales and mask words. -/
def exponent (q : S20x300x16x32.Idx → EReal) (k : S20x2048x16x32.Idx → EReal) (ks : S20x2048x16.Idx → EReal)
    (w : S20x300x64.Idx → BitVec 32) (b : Fin 20) (h : Fin 16) (n : Fin 300) (p : Fin 2048) : EReal :=
  (∑ d : Fin 32, (k (ix4 b p h d) * ks (ix3 b p h)) * q (ix4 b n h d)) * (Head.scoreFactor : EReal)
    + if allowed (fun i => w (ix3 b n i)) p then (0 : EReal) else ⊥

variable (m : (x : Loc nD τ sig) → Buf (Elt Ideal) x)

/-- The queries. -/
def queries (c : Dev nD) : S20x300x16x32.Idx → EReal := m (c.tc.loc main_arg0)
/-- The key codes, as numbers. -/
def keys (c : Dev nD) : S20x2048x16x32.Idx → EReal :=
  bitcastToFloat (F := Ideal) .fp8e4m3 (m (c.tc.loc main_arg1) : S20x2048x16x32.Idx → BitVec 8)
/-- The key scales. -/
def keyScales (c : Dev nD) : S20x2048x16.Idx → EReal := m (c.tc.loc main_arg2)
/-- The value codes, as numbers. -/
def values (c : Dev nD) : S20x2048x16x32.Idx → EReal := m (c.tc.loc main_arg3)
/-- The value scales. -/
def valueScales (c : Dev nD) : S20x2048x16.Idx → EReal := m (c.tc.loc main_arg4)
/-- The mask words. -/
def maskWords (c : Dev nD) : S20x300x64.Idx → BitVec 32 := m (c.tc.loc main_arg5)

/-- The bias array of a mask block is zero where the position is allowed and `-∞` elsewhere. -/
theorem bias_apply (c : Dev nD) (t : Fin cfg0.N) (p : Fin 2048) (n : Fin 300) :
    k0_pay2 (F := Ideal) (iblk m c 5 t) (ix2 p n) = if allowed (fun i => maskWords m c (ix3 (image t) n i)) p then (0 : EReal) else ⊥ := by
  rw [Mask.pay2_apply, words_iblk]
  rfl

/-- After every grid point the scratch holds the bias array of the point's image. -/
theorem scratch_eq (c : Dev nD) : ∀ (t : Nat) (ht : t < cfg0.N) (p : Fin 2048) (n : Fin 300),
    (outsAt0 m c t ht).2 (ix2 p n) = if allowed (fun i => maskWords m c (ix3 (image ⟨t, ht⟩) n i)) p then (0 : EReal) else ⊥ := by
  intro t
  induction t with
  | zero =>
    intro ht p n
    rw [outsAt0_A m c ⟨0, ht⟩ (Nat.zero_mod _)]
    dsimp only
    rw [scratch_first, bias_apply]
  | succ t ih =>
    intro ht p n
    by_cases h0 : (t + 1) % 4 = 0
    · rw [outsAt0_A m c ⟨t + 1, ht⟩ h0]
      dsimp only
      rw [scratch_first, bias_apply]
    · rw [outsAt0_B m c ⟨t + 1, ht⟩ h0]
      have e : image ⟨t + 1, ht⟩ = image ⟨t, by omega⟩ := Fin.ext (by show (t + 1) / 4 = t / 4; omega)
      rw [e, ← ih (by omega) p n]
      rfl

/-- The bias a grid point uses, and its output block. -/
theorem block_eq (c : Dev nD) (t : Fin cfg0.N) : ∃ B : Vec Ideal S2048x300 .f32,
    (∀ (p : Fin 2048) (n : Fin 300), B (ix2 p n) = if allowed (fun i => maskWords m c (ix3 (image t) n i)) p then (0 : EReal) else ⊥)
    ∧ (outsAt0 m c t.val t.isLt).1
      = blockOf (grid0.coords t) (iblk m c 0 t) (iblk m c 1 t) (iblk m c 2 t) (iblk m c 3 t) (iblk m c 4 t) B := by
  by_cases h0 : t.val % 4 = 0
  · refine ⟨_, bias_apply m c t, ?_⟩
    rw [outsAt0_A m c t h0]
    dsimp only
    rw [out_first]
  · refine ⟨(outsAt0 m c (t.val - 1) (Nat.lt_of_le_of_lt (Nat.sub_le _ _) t.isLt)).2, fun p n => ?_, ?_⟩
    · have e : image t = image ⟨t.val - 1, Nat.lt_of_le_of_lt (Nat.sub_le _ _) t.isLt⟩ :=
        Fin.ext (by show t.val / 4 = (t.val - 1) / 4; omega)
      rw [e]
      exact scratch_eq m c _ _ p n
    · rw [outsAt0_B m c t h0]
      dsimp only
      rw [out_later]

/-- A grid point's output block at query `n` and column `32 r + d`. -/
theorem point_apply (c : Dev nD) (t : Fin cfg0.N) (n : Fin 300) (r : Fin 4) (d : Fin 32) (j : Fin 128) (hj : j.val = 32 * r.val + d.val)
    (T : Fin 2048 → EReal)
    (hT : ∀ p, T p = exponent (queries m c) (keys m c) (keyScales m c) (maskWords m c) (image t) (headNo t r) n p) :
    (outsAt0 m c t.val t.isLt).1 (ix3 0 n j)
      = Ideal.div (∑ p : Fin 2048, (values m c (ix4 (image t) p (headNo t r) d) * valueScales m c (ix3 (image t) p (headNo t r)))
            * Ideal.exp2 (T p - Finset.univ.fold max ⊥ T))
          (∑ p : Fin 2048, Ideal.exp2 (T p - Finset.univ.fold max ⊥ T)) := by
  obtain ⟨B, hB, e⟩ := block_eq m c t
  rw [e, blockOf_apply _ _ _ _ _ _ _ n r d j hj]
  unfold headOf
  rw [Head.head_apply _ _ _ _ _ _ d n T (fun p => by
    rw [hT, hB, keyScale_iblk]
    simp only [keyRows_iblk, queryRows_iblk]
    rfl)]
  simp only [valueRows_iblk, valueScale_iblk]
  rfl

/-- The kernel's result at image `b`, query `n` and column `32 h + d`. -/
theorem result_apply (c : Dev nD) (b : Fin 20) (n : Fin 300) (h : Fin 16) (d : Fin 32) (T : Fin 2048 → EReal)
    (hT : ∀ p, T p = exponent (queries m c) (keys m c) (keyScales m c) (maskWords m c) b h n p) :
    (Value.G6 m c : S20x300x512.Idx → EReal) (ix3 b n (col h d))
      = Ideal.div (∑ p : Fin 2048, (values m c (ix4 b p h d) * valueScales m c (ix3 b p h))
            * Ideal.exp2 (T p - Finset.univ.fold max ⊥ T))
          (∑ p : Fin 2048, Ideal.exp2 (T p - Finset.univ.fold max ⊥ T)) := by
  have hb := b.isLt
  have hn := n.isLt
  have hh := h.isLt
  have hd := d.isLt
  have hc : (col h d).val = 32 * h.val + d.val := rfl
  have hp : Value.pt6Of (ix3 b n (col h d)) = 4 * b.val + h.val / 4 := by
    show 4 * (b.val / 1 - 0) + 4 * (n.val / 300 - 0) + 1 * ((col h d).val / 128 - 0) = _
    rw [hc]; omega
  have hlt : 4 * b.val + h.val / 4 < cfg0.N := lt_of_lt_of_eq (by omega) N_0.symm
  have hi : image ⟨4 * b.val + h.val / 4, hlt⟩ = b := Fin.ext (by show (4 * b.val + h.val / 4) / 4 = b.val; omega)
  have hr : headNo ⟨4 * b.val + h.val / 4, hlt⟩ ⟨h.val % 4, by omega⟩ = h :=
    Fin.ext (by show 4 * ((4 * b.val + h.val / 4) % 4) + h.val % 4 = h.val; omega)
  have hl : Value.loc6Of (ix3 b n (col h d)) = ix3 0 n ⟨(col h d).val % 128, Nat.mod_lt _ (by decide)⟩ := by
    funext a
    match a with
    | ⟨0, _⟩ => exact Fin.ext (by show b.val % 1 = 0; omega)
    | ⟨1, _⟩ => exact Fin.ext (by show n.val % 300 = n.val; omega)
    | ⟨2, _⟩ => rfl
  have key := point_apply m c ⟨4 * b.val + h.val / 4, hlt⟩ n ⟨h.val % 4, by omega⟩ d ⟨(col h d).val % 128, Nat.mod_lt _ (by decide)⟩
    (by show (col h d).val % 128 = 32 * (h.val % 4) + d.val; rw [hc]; omega) T (fun p => by rw [hi, hr]; exact hT p)
  rw [hi, hr] at key
  rw [← key]
  show Value.G6 m c (ix3 b n (col h d)) = _
  unfold Value.G6
  rw [dif_pos (by rw [hp]; exact hlt), hl, Value.fold0_congr m c _ _ _ (by omega) hp, ← Value.outsAt0_sweep m c _ hlt]

end Cert.KernelIdeal.Array

end
-- ==== Proof.RefOps.lean ====
/- The reference, one operation at a time: for each host operation after its kernel region, the value it writes
   (`val_<buffer>`) as a function of the arguments and of the region's two results (`r0` the widened keys, `r1` the
   widened values), and that value read at an index from its operands (`val_<buffer>_apply`). -/
module

public import proofs.«01_k».proof.Proof.Gen.ReferenceIdeal.Frame
public import Idealize.ShloMosaic.Lib.Pipeline.Value
public import Idealize.ShloMosaic.Lib.ValueIdx
public import Idealize.ShloMosaic.PureOps.Ideal.Laws

@[expose] public section

noncomputable section

namespace Cert.ReferenceIdeal.Ops

open Cert.ReferenceIdeal Cert.ReferenceIdeal.Gen Idealize.ShloMosaic Idealize.ShloMosaic.TcCoe Idealize.SL.Sem Idealize.ShloMosaic.StableHlo

variable {F : FTy → Type} [FloatOps F]

-- %2 = stablehlo.bitcast_convert %arg5 : (tensor<20x300x64xi32>) -> tensor<20x300x64xui32>
def val_main_v2 (x5 : (⟨S20x300x64, .i32⟩ : BufTy).Contents (Elt F)) : (⟨S20x300x64, .i32⟩ : BufTy).Contents (Elt F) :=
  id (x5)
theorem val_main_v2_apply (x5 : (⟨S20x300x64, .i32⟩ : BufTy).Contents (Elt F)) (i : S20x300x64.Idx) :
    val_main_v2 (F := F) x5 i = (x5 i) := rfl

-- %3 = stablehlo.iota dim = 0 : tensor<32xui32>
def val_main_v3 : (⟨S32, .i32⟩ : BufTy).Contents (Elt F) :=
  iotaInDim S32 32 0
theorem val_main_v3_apply (i : S32.Idx) :
    val_main_v3 (F := F) i = BitVec.ofNat 32 (i 0).val := rfl

-- %4 = stablehlo.broadcast_in_dim %2, dims = [0, 1, 2] : (tensor<20x300x64xui32>) -> tensor<20x300x64x1xui32>
def val_main_v4 (x5 : (⟨S20x300x64, .i32⟩ : BufTy).Contents (Elt F)) : (⟨S20x300x64x1, .i32⟩ : BufTy).Contents (Elt F) :=
  broadcastInDim S20x300x64x1 ![0, 1, 2] bcast_S20x300x64_S20x300x64x1_0_1_2 (val_main_v2 (F := F) x5)
abbrev idx_main_v4 (i : S20x300x64x1.Idx) : S20x300x64.Idx := fun a => match a with
  | ⟨0, _⟩ => ⟨(i 0).val, (i 0).isLt⟩
  | ⟨1, _⟩ => ⟨(i 1).val, (i 1).isLt⟩
  | ⟨2, _⟩ => ⟨(i 2).val, (i 2).isLt⟩
theorem val_main_v4_apply (x5 : (⟨S20x300x64, .i32⟩ : BufTy).Contents (Elt F)) (i : S20x300x64x1.Idx) :
    val_main_v4 (F := F) x5 i = val_main_v2 (F := F) x5 (idx_main_v4 i) := by
  unfold val_main_v4
  generalize val_main_v2 (F := F) x5 = y
  exact broadcastInDim_apply _ bcast_S20x300x64_S20x300x64x1_0_1_2 y i (idx_main_v4 i) (fun a => match a with
    | ⟨0, _⟩ => by show (i 0).val = if (20 : Nat) = 1 then 0 else (i 0).val; rw [if_neg (by decide)]
    | ⟨1, _⟩ => by show (i 1).val = if (300 : Nat) = 1 then 0 else (i 1).val; rw [if_neg (by decide)]
    | ⟨2, _⟩ => by show (i 2).val = if (64 : Nat) = 1 then 0 else (i 2).val; rw [if_neg (by decide)])

-- %5 = stablehlo.broadcast_in_dim %3, dims = [3] : (tensor<32xui32>) -> tensor<1x1x1x32xui32>
def val_main_v5 : (⟨S1x1x1x32, .i32⟩ : BufTy).Contents (Elt F) :=
  broadcastInDim S1x1x1x32 ![3] bcast_S32_S1x1x1x32_3 (val_main_v3 (F := F))
abbrev idx_main_v5 (i : S1x1x1x32.Idx) : S32.Idx := fun a => match a with
  | ⟨0, _⟩ => ⟨(i 3).val, (i 3).isLt⟩
theorem val_main_v5_apply (i : S1x1x1x32.Idx) :
    val_main_v5 (F := F) i = val_main_v3 (F := F) (idx_main_v5 i) := by
  unfold val_main_v5
  generalize val_main_v3 (F := F) = y
  exact broadcastInDim_apply _ bcast_S32_S1x1x1x32_3 y i (idx_main_v5 i) (fun a => match a with
    | ⟨0, _⟩ => by show (i 3).val = if (32 : Nat) = 1 then 0 else (i 3).val; rw [if_neg (by decide)])

-- %6 = stablehlo.broadcast_in_dim %4, dims = [0, 1, 2, 3] : (tensor<20x300x64x1xui32>) -> tensor<20x300x64x32xui32>
def val_main_v6 (x5 : (⟨S20x300x64, .i32⟩ : BufTy).Contents (Elt F)) : (⟨S20x300x64x32, .i32⟩ : BufTy).Contents (Elt F) :=
  broadcastInDim S20x300x64x32 ![0, 1, 2, 3] bcast_S20x300x64x1_S20x300x64x32_0_1_2_3 (val_main_v4 (F := F) x5)
abbrev idx_main_v6 (i : S20x300x64x32.Idx) : S20x300x64x1.Idx := fun a => match a with
  | ⟨0, _⟩ => ⟨(i 0).val, (i 0).isLt⟩
  | ⟨1, _⟩ => ⟨(i 1).val, (i 1).isLt⟩
  | ⟨2, _⟩ => ⟨(i 2).val, (i 2).isLt⟩
  | ⟨3, _⟩ => ⟨0, Nat.one_pos⟩
theorem val_main_v6_apply (x5 : (⟨S20x300x64, .i32⟩ : BufTy).Contents (Elt F)) (i : S20x300x64x32.Idx) :
    val_main_v6 (F := F) x5 i = val_main_v4 (F := F) x5 (idx_main_v6 i) := by
  unfold val_main_v6
  generalize val_main_v4 (F := F) x5 = y
  exact broadcastInDim_apply _ bcast_S20x300x64x1_S20x300x64x32_0_1_2_3 y i (idx_main_v6 i) (fun a => match a with
    | ⟨0, _⟩ => by show (i 0).val = if (20 : Nat) = 1 then 0 else (i 0).val; rw [if_neg (by decide)]
    | ⟨1, _⟩ => by show (i 1).val = if (300 : Nat) = 1 then 0 else (i 1).val; rw [if_neg (by decide)]
    | ⟨2, _⟩ => by show (i 2).val = if (64 : Nat) = 1 then 0 else (i 2).val; rw [if_neg (by decide)]
    | ⟨3, _⟩ => by show 0 = if (1 : Nat) = 1 then 0 else (i 3).val; rw [if_pos rfl])

-- %7 = stablehlo.broadcast_in_dim %5, dims = [0, 1, 2, 3] : (tensor<1x1x1x32xui32>) -> tensor<20x300x64x32xui32>
def val_main_v7 : (⟨S20x300x64x32, .i32⟩ : BufTy).Contents (Elt F) :=
  broadcastInDim S20x300x64x32 ![0, 1, 2, 3] bcast_S1x1x1x32_S20x300x64x32_0_1_2_3 (val_main_v5 (F := F))
abbrev idx_main_v7 (i : S20x300x64x32.Idx) : S1x1x1x32.Idx := fun a => match a with
  | ⟨0, _⟩ => ⟨0, Nat.one_pos⟩
  | ⟨1, _⟩ => ⟨0, Nat.one_pos⟩
  | ⟨2, _⟩ => ⟨0, Nat.one_pos⟩
  | ⟨3, _⟩ => ⟨(i 3).val, (i 3).isLt⟩
theorem val_main_v7_apply (i : S20x300x64x32.Idx) :
    val_main_v7 (F := F) i = val_main_v5 (F := F) (idx_main_v7 i) := by
  unfold val_main_v7
  generalize val_main_v5 (F := F) = y
  exact broadcastInDim_apply _ bcast_S1x1x1x32_S20x300x64x32_0_1_2_3 y i (idx_main_v7 i) (fun a => match a with
    | ⟨0, _⟩ => by show 0 = if (1 : Nat) = 1 then 0 else (i 0).val; rw [if_pos rfl]
    | ⟨1, _⟩ => by show 0 = if (1 : Nat) = 1 then 0 else (i 1).val; rw [if_pos rfl]
    | ⟨2, _⟩ => by show 0 = if (1 : Nat) = 1 then 0 else (i 2).val; rw [if_pos rfl]
    | ⟨3, _⟩ => by show (i 3).val = if (32 : Nat) = 1 then 0 else (i 3).val; rw [if_neg (by decide)])

-- %8 = stablehlo.shift_right_logical %6, %7 : tensor<20x300x64x32xui32>
def val_main_v8 (x5 : (⟨S20x300x64, .i32⟩ : BufTy).Contents (Elt F)) : (⟨S20x300x64x32, .i32⟩ : BufTy).Contents (Elt F) :=
  Host.shrui (val_main_v6 (F := F) x5) (val_main_v7 (F := F))
theorem val_main_v8_apply (x5 : (⟨S20x300x64, .i32⟩ : BufTy).Contents (Elt F)) (i : S20x300x64x32.Idx) :
    val_main_v8 (F := F) x5 i = IntOp.shrui .host (val_main_v6 (F := F) x5 i) (val_main_v7 (F := F) i) := rfl

-- %c = stablehlo.constant dense<1> : tensor<ui32>
def val_main_c : (⟨S_, .i32⟩ : BufTy).Contents (Elt F) :=
  constantI S_ 32 1#32
theorem val_main_c_apply (i : S_.Idx) :
    val_main_c (F := F) i = 1#32 := rfl

-- %9 = stablehlo.broadcast_in_dim %c, dims = [] : (tensor<ui32>) -> tensor<20x300x64x32xui32>
def val_main_v9 : (⟨S20x300x64x32, .i32⟩ : BufTy).Contents (Elt F) :=
  broadcastInDim S20x300x64x32 ![] bcast_S_S20x300x64x32 (val_main_c (F := F))
abbrev idx_main_v9 (i : S20x300x64x32.Idx) : S_.Idx := fun a => a.elim0
theorem val_main_v9_apply (i : S20x300x64x32.Idx) :
    val_main_v9 (F := F) i = val_main_c (F := F) (idx_main_v9 i) := by
  unfold val_main_v9
  generalize val_main_c (F := F) = y
  exact broadcastInDim_apply _ bcast_S_S20x300x64x32 y i (idx_main_v9 i) (fun a => a.elim0)

-- %10 = stablehlo.and %8, %9 : tensor<20x300x64x32xui32>
def val_main_v10 (x5 : (⟨S20x300x64, .i32⟩ : BufTy).Contents (Elt F)) : (⟨S20x300x64x32, .i32⟩ : BufTy).Contents (Elt F) :=
  andi (val_main_v8 (F := F) x5) (val_main_v9 (F := F))
theorem val_main_v10_apply (x5 : (⟨S20x300x64, .i32⟩ : BufTy).Contents (Elt F)) (i : S20x300x64x32.Idx) :
    val_main_v10 (F := F) x5 i = IntOp.andi (val_main_v8 (F := F) x5 i) (val_main_v9 (F := F) i) := rfl

-- %c_0 = stablehlo.constant dense<0> : tensor<ui32>
def val_main_c_0 : (⟨S_, .i32⟩ : BufTy).Contents (Elt F) :=
  constantI S_ 32 0#32
theorem val_main_c_0_apply (i : S_.Idx) :
    val_main_c_0 (F := F) i = 0#32 := rfl

-- %11 = stablehlo.broadcast_in_dim %c_0, dims = [] : (tensor<ui32>) -> tensor<20x300x64x32xui32>
def val_main_v11 : (⟨S20x300x64x32, .i32⟩ : BufTy).Contents (Elt F) :=
  broadcastInDim S20x300x64x32 ![] bcast_S_S20x300x64x32 (val_main_c_0 (F := F))
abbrev idx_main_v11 (i : S20x300x64x32.Idx) : S_.Idx := fun a => a.elim0
theorem val_main_v11_apply (i : S20x300x64x32.Idx) :
    val_main_v11 (F := F) i = val_main_c_0 (F := F) (idx_main_v11 i) := by
  unfold val_main_v11
  generalize val_main_c_0 (F := F) = y
  exact broadcastInDim_apply _ bcast_S_S20x300x64x32 y i (idx_main_v11 i) (fun a => a.elim0)

-- %12 = stablehlo.compare NE, %10, %11, UNSIGNED : (tensor<20x300x64x32xui32>, tensor<20x300x64x32xui32>) -> tensor<20x300x64x32xi1>
def val_main_v12 (x5 : (⟨S20x300x64, .i32⟩ : BufTy).Contents (Elt F)) : (⟨S20x300x64x32, .i1⟩ : BufTy).Contents (Elt F) :=
  cmpi .ne (val_main_v10 (F := F) x5) (val_main_v11 (F := F))
theorem val_main_v12_apply (x5 : (⟨S20x300x64, .i32⟩ : BufTy).Contents (Elt F)) (i : S20x300x64x32.Idx) :
    val_main_v12 (F := F) x5 i = IntOp.cmpi .ne (val_main_v10 (F := F) x5 i) (val_main_v11 (F := F) i) := rfl

-- %13 = stablehlo.convert %12 : tensor<20x300x64x32xi1>
def val_main_v13 (x5 : (⟨S20x300x64, .i32⟩ : BufTy).Contents (Elt F)) : (⟨S20x300x64x32, .i1⟩ : BufTy).Contents (Elt F) :=
  id (val_main_v12 (F := F) x5)
theorem val_main_v13_apply (x5 : (⟨S20x300x64, .i32⟩ : BufTy).Contents (Elt F)) (i : S20x300x64x32.Idx) :
    val_main_v13 (F := F) x5 i = (val_main_v12 (F := F) x5 i) := rfl

-- %14 = stablehlo.reshape %13 : (tensor<20x300x64x32xi1>) -> tensor<20x300x2048xi1>
def val_main_v14 (x5 : (⟨S20x300x64, .i32⟩ : BufTy).Contents (Elt F)) : (⟨S20x300x2048, .i1⟩ : BufTy).Contents (Elt F) :=
  shapeCast _ (val_main_v13 (F := F) x5) shapeCasts_S20x300x64x32_S20x300x2048
set_option backward.proofsInPublic true in
abbrev idx_main_v14 (i : S20x300x2048.Idx) : S20x300x64x32.Idx := fun a => match a with
  | ⟨0, _⟩ => ⟨(((i 0).val * 300 + (i 1).val) * 2048 + (i 2).val) / 614400, by have h0 : (i 0).val < 20 := (i 0).isLt; have h1 : (i 1).val < 300 := (i 1).isLt; have h2 : (i 2).val < 2048 := (i 2).isLt; show (((i 0).val * 300 + (i 1).val) * 2048 + (i 2).val) / 614400 < 20; omega⟩
  | ⟨1, _⟩ => ⟨(((i 0).val * 300 + (i 1).val) * 2048 + (i 2).val) / 2048 % 300, by have h0 : (i 0).val < 20 := (i 0).isLt; have h1 : (i 1).val < 300 := (i 1).isLt; have h2 : (i 2).val < 2048 := (i 2).isLt; show (((i 0).val * 300 + (i 1).val) * 2048 + (i 2).val) / 2048 % 300 < 300; omega⟩
  | ⟨2, _⟩ => ⟨(((i 0).val * 300 + (i 1).val) * 2048 + (i 2).val) / 32 % 64, by have h0 : (i 0).val < 20 := (i 0).isLt; have h1 : (i 1).val < 300 := (i 1).isLt; have h2 : (i 2).val < 2048 := (i 2).isLt; show (((i 0).val * 300 + (i 1).val) * 2048 + (i 2).val) / 32 % 64 < 64; omega⟩
  | ⟨3, _⟩ => ⟨(((i 0).val * 300 + (i 1).val) * 2048 + (i 2).val) % 32, by have h0 : (i 0).val < 20 := (i 0).isLt; have h1 : (i 1).val < 300 := (i 1).isLt; have h2 : (i 2).val < 2048 := (i 2).isLt; show (((i 0).val * 300 + (i 1).val) * 2048 + (i 2).val) % 32 < 32; omega⟩
theorem val_main_v14_apply (x5 : (⟨S20x300x64, .i32⟩ : BufTy).Contents (Elt F)) (i : S20x300x2048.Idx) :
    val_main_v14 (F := F) x5 i = val_main_v13 (F := F) x5 (idx_main_v14 i) := by
  unfold val_main_v14
  generalize val_main_v13 (F := F) x5 = y
  exact shapeCast_apply y shapeCasts_S20x300x64x32_S20x300x2048 i (idx_main_v14 i)
    (by rewrite [Shape.rowMajor_val_four, Shape.rowMajor_val_three]; have h0 : (i 0).val < 20 := (i 0).isLt; have h1 : (i 1).val < 300 := (i 1).isLt; have h2 : (i 2).val < 2048 := (i 2).isLt; show (((((i 0).val * 300 + (i 1).val) * 2048 + (i 2).val) / 614400 * 300 + (((i 0).val * 300 + (i 1).val) * 2048 + (i 2).val) / 2048 % 300) * 64 + (((i 0).val * 300 + (i 1).val) * 2048 + (i 2).val) / 32 % 64) * 32 + (((i 0).val * 300 + (i 1).val) * 2048 + (i 2).val) % 32 = ((i 0).val * 300 + (i 1).val) * 2048 + (i 2).val; omega)

-- %c_1 = stablehlo.constant dense<0> : tensor<i32>
def val_main_c_1 : (⟨S_, .i32⟩ : BufTy).Contents (Elt F) :=
  constantI S_ 32 0#32
theorem val_main_c_1_apply (i : S_.Idx) :
    val_main_c_1 (F := F) i = 0#32 := rfl

-- %15 = stablehlo.broadcast_in_dim %c_1, dims = [] : (tensor<i32>) -> tensor<20x300x64xi32>
def val_main_v15 : (⟨S20x300x64, .i32⟩ : BufTy).Contents (Elt F) :=
  broadcastInDim S20x300x64 ![] bcast_S_S20x300x64 (val_main_c_1 (F := F))
abbrev idx_main_v15 (i : S20x300x64.Idx) : S_.Idx := fun a => a.elim0
theorem val_main_v15_apply (i : S20x300x64.Idx) :
    val_main_v15 (F := F) i = val_main_c_1 (F := F) (idx_main_v15 i) := by
  unfold val_main_v15
  generalize val_main_c_1 (F := F) = y
  exact broadcastInDim_apply _ bcast_S_S20x300x64 y i (idx_main_v15 i) (fun a => a.elim0)

-- %16 = stablehlo.compare EQ, %arg5, %15, SIGNED : (tensor<20x300x64xi32>, tensor<20x300x64xi32>) -> tensor<20x300x64xi1>
def val_main_v16 (x5 : (⟨S20x300x64, .i32⟩ : BufTy).Contents (Elt F)) : (⟨S20x300x64, .i1⟩ : BufTy).Contents (Elt F) :=
  cmpi .eq (x5) (val_main_v15 (F := F))
theorem val_main_v16_apply (x5 : (⟨S20x300x64, .i32⟩ : BufTy).Contents (Elt F)) (i : S20x300x64.Idx) :
    val_main_v16 (F := F) x5 i = IntOp.cmpi .eq (x5 i) (val_main_v15 (F := F) i) := rfl

-- %c_2 = stablehlo.constant dense<true> : tensor<i1>
def val_main_c_2 : (⟨S_, .i1⟩ : BufTy).Contents (Elt F) :=
  constantI S_ 1 1#1
theorem val_main_c_2_apply (i : S_.Idx) :
    val_main_c_2 (F := F) i = 1#1 := rfl

-- %17 = stablehlo.reduce(%16 init: %c_2) applies stablehlo.and across dimensions = [2] : (tensor<20x300x64xi1>, tensor<i1>) -> tensor<20x300xi1> {
def val_main_v17 (x5 : (⟨S20x300x64, .i32⟩ : BufTy).Contents (Elt F)) : (⟨S20x300, .i1⟩ : BufTy).Contents (Elt F) :=
  Host.reduce IntOp.andi (val_main_v16 (F := F) x5) (val_main_c_2 (F := F)) reducesTo_S20x300x64_S20x300_d2 h_S_

-- %18 = stablehlo.broadcast_in_dim %17, dims = [0, 1] : (tensor<20x300xi1>) -> tensor<20x300x1xi1>
def val_main_v18 (x5 : (⟨S20x300x64, .i32⟩ : BufTy).Contents (Elt F)) : (⟨S20x300x1, .i1⟩ : BufTy).Contents (Elt F) :=
  broadcastInDim S20x300x1 ![0, 1] bcast_S20x300_S20x300x1_0_1 (val_main_v17 (F := F) x5)
abbrev idx_main_v18 (i : S20x300x1.Idx) : S20x300.Idx := fun a => match a with
  | ⟨0, _⟩ => ⟨(i 0).val, (i 0).isLt⟩
  | ⟨1, _⟩ => ⟨(i 1).val, (i 1).isLt⟩
theorem val_main_v18_apply (x5 : (⟨S20x300x64, .i32⟩ : BufTy).Contents (Elt F)) (i : S20x300x1.Idx) :
    val_main_v18 (F := F) x5 i = val_main_v17 (F := F) x5 (idx_main_v18 i) := by
  unfold val_main_v18
  generalize val_main_v17 (F := F) x5 = y
  exact broadcastInDim_apply _ bcast_S20x300_S20x300x1_0_1 y i (idx_main_v18 i) (fun a => match a with
    | ⟨0, _⟩ => by show (i 0).val = if (20 : Nat) = 1 then 0 else (i 0).val; rw [if_neg (by decide)]
    | ⟨1, _⟩ => by show (i 1).val = if (300 : Nat) = 1 then 0 else (i 1).val; rw [if_neg (by decide)])

-- %19 = stablehlo.broadcast_in_dim %18, dims = [0, 1, 2] : (tensor<20x300x1xi1>) -> tensor<20x300x2048xi1>
def val_main_v19 (x5 : (⟨S20x300x64, .i32⟩ : BufTy).Contents (Elt F)) : (⟨S20x300x2048, .i1⟩ : BufTy).Contents (Elt F) :=
  broadcastInDim S20x300x2048 ![0, 1, 2] bcast_S20x300x1_S20x300x2048_0_1_2 (val_main_v18 (F := F) x5)
abbrev idx_main_v19 (i : S20x300x2048.Idx) : S20x300x1.Idx := fun a => match a with
  | ⟨0, _⟩ => ⟨(i 0).val, (i 0).isLt⟩
  | ⟨1, _⟩ => ⟨(i 1).val, (i 1).isLt⟩
  | ⟨2, _⟩ => ⟨0, Nat.one_pos⟩
theorem val_main_v19_apply (x5 : (⟨S20x300x64, .i32⟩ : BufTy).Contents (Elt F)) (i : S20x300x2048.Idx) :
    val_main_v19 (F := F) x5 i = val_main_v18 (F := F) x5 (idx_main_v19 i) := by
  unfold val_main_v19
  generalize val_main_v18 (F := F) x5 = y
  exact broadcastInDim_apply _ bcast_S20x300x1_S20x300x2048_0_1_2 y i (idx_main_v19 i) (fun a => match a with
    | ⟨0, _⟩ => by show (i 0).val = if (20 : Nat) = 1 then 0 else (i 0).val; rw [if_neg (by decide)]
    | ⟨1, _⟩ => by show (i 1).val = if (300 : Nat) = 1 then 0 else (i 1).val; rw [if_neg (by decide)]
    | ⟨2, _⟩ => by show 0 = if (1 : Nat) = 1 then 0 else (i 2).val; rw [if_pos rfl])

-- %20 = stablehlo.or %14, %19 : tensor<20x300x2048xi1>
def val_main_v20 (x5 : (⟨S20x300x64, .i32⟩ : BufTy).Contents (Elt F)) : (⟨S20x300x2048, .i1⟩ : BufTy).Contents (Elt F) :=
  ori (val_main_v14 (F := F) x5) (val_main_v19 (F := F) x5)
theorem val_main_v20_apply (x5 : (⟨S20x300x64, .i32⟩ : BufTy).Contents (Elt F)) (i : S20x300x2048.Idx) :
    val_main_v20 (F := F) x5 i = IntOp.ori (val_main_v14 (F := F) x5 i) (val_main_v19 (F := F) x5 i) := rfl

-- %21 = stablehlo.dot_general %arg0, %1#0, batching_dims = [0, 2] x [0, 2], contracting_dims = [3] x [3], precision = [DEFAULT, DEFAULT] : (tensor<20x300x16x32xbf16>, tensor<20x2048x16x32xbf16>) -> tensor<20x16x300x2048xf32>
def val_main_v21 (x0 : (⟨S20x300x16x32, .bf16⟩ : BufTy).Contents (Elt F)) (r0 : (⟨S20x2048x16x32, .bf16⟩ : BufTy).Contents (Elt F)) : (⟨S20x16x300x2048, .f32⟩ : BufTy).Contents (Elt F) :=
  Host.dotGeneral dot_S20x300x16x32_S20x2048x16x32_S20x16x300x2048_3_3_1_1_02_02 none (x0) (r0)
theorem lhs_main_v21_0 (i : S20x16x300x2048.Idx) (q : dot_S20x300x16x32_S20x2048x16x32_S20x16x300x2048_3_3_1_1_02_02.contr.Idx) :
    (dot_S20x300x16x32_S20x2048x16x32_S20x16x300x2048_3_3_1_1_02_02.lhsIdx i q 0).val = (i 0).val := by
  unfold DotDims.lhsIdx
  rw [dif_pos (show (0 : Fin S20x300x16x32.rank) ∈ dot_S20x300x16x32_S20x2048x16x32_S20x16x300x2048_3_3_1_1_02_02.lhsBatch by decide)]
  rfl
theorem lhs_main_v21_1 (i : S20x16x300x2048.Idx) (q : dot_S20x300x16x32_S20x2048x16x32_S20x16x300x2048_3_3_1_1_02_02.contr.Idx) :
    (dot_S20x300x16x32_S20x2048x16x32_S20x16x300x2048_3_3_1_1_02_02.lhsIdx i q 1).val = (i 2).val := by
  unfold DotDims.lhsIdx
  rw [dif_neg (show ¬(1 : Fin S20x300x16x32.rank) ∈ dot_S20x300x16x32_S20x2048x16x32_S20x16x300x2048_3_3_1_1_02_02.lhsBatch by decide), dif_pos (show (1 : Fin S20x300x16x32.rank) ∈ dot_S20x300x16x32_S20x2048x16x32_S20x16x300x2048_3_3_1_1_02_02.lhsNonContracting by decide)]
  rfl
theorem lhs_main_v21_2 (i : S20x16x300x2048.Idx) (q : dot_S20x300x16x32_S20x2048x16x32_S20x16x300x2048_3_3_1_1_02_02.contr.Idx) :
    (dot_S20x300x16x32_S20x2048x16x32_S20x16x300x2048_3_3_1_1_02_02.lhsIdx i q 2).val = (i 1).val := by
  unfold DotDims.lhsIdx
  rw [dif_pos (show (2 : Fin S20x300x16x32.rank) ∈ dot_S20x300x16x32_S20x2048x16x32_S20x16x300x2048_3_3_1_1_02_02.lhsBatch by decide)]
  rfl
theorem lhs_main_v21_3 (i : S20x16x300x2048.Idx) (q : dot_S20x300x16x32_S20x2048x16x32_S20x16x300x2048_3_3_1_1_02_02.contr.Idx) :
    (dot_S20x300x16x32_S20x2048x16x32_S20x16x300x2048_3_3_1_1_02_02.lhsIdx i q 3).val = (q ⟨0, by decide⟩).val :=
  dot_S20x300x16x32_S20x2048x16x32_S20x16x300x2048_3_3_1_1_02_02.lhsIdx_val_of_single rfl i q
theorem rhs_main_v21_0 (i : S20x16x300x2048.Idx) (q : dot_S20x300x16x32_S20x2048x16x32_S20x16x300x2048_3_3_1_1_02_02.contr.Idx) :
    (dot_S20x300x16x32_S20x2048x16x32_S20x16x300x2048_3_3_1_1_02_02.rhsIdx i q 0).val = (i 0).val := by
  unfold DotDims.rhsIdx
  rw [dif_pos (show (0 : Fin S20x2048x16x32.rank) ∈ dot_S20x300x16x32_S20x2048x16x32_S20x16x300x2048_3_3_1_1_02_02.rhsBatch by decide)]
  rfl
theorem rhs_main_v21_1 (i : S20x16x300x2048.Idx) (q : dot_S20x300x16x32_S20x2048x16x32_S20x16x300x2048_3_3_1_1_02_02.contr.Idx) :
    (dot_S20x300x16x32_S20x2048x16x32_S20x16x300x2048_3_3_1_1_02_02.rhsIdx i q 1).val = (i 3).val := by
  unfold DotDims.rhsIdx
  rw [dif_neg (show ¬(1 : Fin S20x2048x16x32.rank) ∈ dot_S20x300x16x32_S20x2048x16x32_S20x16x300x2048_3_3_1_1_02_02.rhsBatch by decide), dif_pos (show (1 : Fin S20x2048x16x32.rank) ∈ dot_S20x300x16x32_S20x2048x16x32_S20x16x300x2048_3_3_1_1_02_02.rhsNonContracting by decide)]
  rfl
theorem rhs_main_v21_2 (i : S20x16x300x2048.Idx) (q : dot_S20x300x16x32_S20x2048x16x32_S20x16x300x2048_3_3_1_1_02_02.contr.Idx) :
    (dot_S20x300x16x32_S20x2048x16x32_S20x16x300x2048_3_3_1_1_02_02.rhsIdx i q 2).val = (i 1).val := by
  unfold DotDims.rhsIdx
  rw [dif_pos (show (2 : Fin S20x2048x16x32.rank) ∈ dot_S20x300x16x32_S20x2048x16x32_S20x16x300x2048_3_3_1_1_02_02.rhsBatch by decide)]
  rfl
theorem rhs_main_v21_3 (i : S20x16x300x2048.Idx) (q : dot_S20x300x16x32_S20x2048x16x32_S20x16x300x2048_3_3_1_1_02_02.contr.Idx) :
    (dot_S20x300x16x32_S20x2048x16x32_S20x16x300x2048_3_3_1_1_02_02.rhsIdx i q 3).val = (q ⟨0, by decide⟩).val :=
  dot_S20x300x16x32_S20x2048x16x32_S20x16x300x2048_3_3_1_1_02_02.rhsIdx_val_of_single rfl i q
abbrev lidx_main_v21 (i : S20x16x300x2048.Idx) (k : Fin 32) : S20x300x16x32.Idx := fun a => match a with
  | ⟨0, _⟩ => ⟨(i 0).val, (i 0).isLt⟩
  | ⟨1, _⟩ => ⟨(i 2).val, (i 2).isLt⟩
  | ⟨2, _⟩ => ⟨(i 1).val, (i 1).isLt⟩
  | ⟨3, _⟩ => ⟨k.val, k.isLt⟩
abbrev ridx_main_v21 (i : S20x16x300x2048.Idx) (k : Fin 32) : S20x2048x16x32.Idx := fun a => match a with
  | ⟨0, _⟩ => ⟨(i 0).val, (i 0).isLt⟩
  | ⟨1, _⟩ => ⟨(i 3).val, (i 3).isLt⟩
  | ⟨2, _⟩ => ⟨(i 1).val, (i 1).isLt⟩
  | ⟨3, _⟩ => ⟨k.val, k.isLt⟩
/-- Stated at `F := Ideal`, where the host's `dot_general` is this sum; at a bit-exact instance it is an opaque function of its operands. -/
theorem val_main_v21_apply (x0 : (⟨S20x300x16x32, .bf16⟩ : BufTy).Contents (Elt Ideal)) (r0 : (⟨S20x2048x16x32, .bf16⟩ : BufTy).Contents (Elt Ideal)) (i : S20x16x300x2048.Idx) :
    val_main_v21 (F := Ideal) x0 r0 i = ∑ k : Fin 32, x0 (lidx_main_v21 i k) * r0 (ridx_main_v21 i k) := by
  unfold val_main_v21
  simp only [Host.dotGeneral]
  rw [Ideal.dotGeneral_apply, ← Equiv.sum_comp (ValueIdx.contrEquiv1 dot_S20x300x16x32_S20x2048x16x32_S20x16x300x2048_3_3_1_1_02_02 32 rfl rfl).symm]
  refine Finset.sum_congr rfl fun k _ => ?_
  have hk := ValueIdx.contrEquiv1_symm_val dot_S20x300x16x32_S20x2048x16x32_S20x16x300x2048_3_3_1_1_02_02 32 rfl rfl k
  have el : dot_S20x300x16x32_S20x2048x16x32_S20x16x300x2048_3_3_1_1_02_02.lhsIdx i ((ValueIdx.contrEquiv1 dot_S20x300x16x32_S20x2048x16x32_S20x16x300x2048_3_3_1_1_02_02 32 rfl rfl).symm k) = lidx_main_v21 i k := funext fun a => Fin.ext (by
    match a with
    | ⟨0, _⟩ => exact lhs_main_v21_0 _ _
    | ⟨1, _⟩ => exact lhs_main_v21_1 _ _
    | ⟨2, _⟩ => exact lhs_main_v21_2 _ _
    | ⟨3, _⟩ => exact (lhs_main_v21_3 _ _).trans hk)
  have er : dot_S20x300x16x32_S20x2048x16x32_S20x16x300x2048_3_3_1_1_02_02.rhsIdx i ((ValueIdx.contrEquiv1 dot_S20x300x16x32_S20x2048x16x32_S20x16x300x2048_3_3_1_1_02_02 32 rfl rfl).symm k) = ridx_main_v21 i k := funext fun a => Fin.ext (by
    match a with
    | ⟨0, _⟩ => exact rhs_main_v21_0 _ _
    | ⟨1, _⟩ => exact rhs_main_v21_1 _ _
    | ⟨2, _⟩ => exact rhs_main_v21_2 _ _
    | ⟨3, _⟩ => exact (rhs_main_v21_3 _ _).trans hk)
  rw [el, er]

-- %22 = stablehlo.transpose %arg2, dims = [0, 2, 1] : (tensor<20x2048x16xf32>) -> tensor<20x16x2048xf32>
def val_main_v22 (x2 : (⟨S20x2048x16, .f32⟩ : BufTy).Contents (Elt F)) : (⟨S20x16x2048, .f32⟩ : BufTy).Contents (Elt F) :=
  transpose S20x16x2048 [0, 2, 1] (x2) transposes_S20x2048x16_S20x16x2048_0_2_1
abbrev idx_main_v22 (i : S20x16x2048.Idx) : S20x2048x16.Idx := fun a => match a with
  | ⟨0, _⟩ => ⟨(i 0).val, (i 0).isLt⟩
  | ⟨1, _⟩ => ⟨(i 2).val, (i 2).isLt⟩
  | ⟨2, _⟩ => ⟨(i 1).val, (i 1).isLt⟩
theorem val_main_v22_apply (x2 : (⟨S20x2048x16, .f32⟩ : BufTy).Contents (Elt F)) (i : S20x16x2048.Idx) :
    val_main_v22 (F := F) x2 i = x2 (idx_main_v22 i) := by
  unfold val_main_v22
  exact transpose_apply [0, 2, 1] x2 transposes_S20x2048x16_S20x16x2048_0_2_1 i (idx_main_v22 i) (fun b => match b with
    | ⟨0, _⟩ => rfl
    | ⟨1, _⟩ => rfl
    | ⟨2, _⟩ => rfl)

-- %cst = stablehlo.constant dense<0.176776692> : tensor<f32>
def val_main_cst : (⟨S_, .f32⟩ : BufTy).Contents (Elt F) :=
  constant S_ .f32 0x3E3504F3#32
theorem val_main_cst_apply (i : S_.Idx) :
    val_main_cst (F := F) i = FloatOps.ofBits .f32 0x3E3504F3#32 := rfl

-- %23 = stablehlo.broadcast_in_dim %cst, dims = [] : (tensor<f32>) -> tensor<20x16x2048xf32>
def val_main_v23 : (⟨S20x16x2048, .f32⟩ : BufTy).Contents (Elt F) :=
  broadcastInDim S20x16x2048 ![] bcast_S_S20x16x2048 (val_main_cst (F := F))
abbrev idx_main_v23 (i : S20x16x2048.Idx) : S_.Idx := fun a => a.elim0
theorem val_main_v23_apply (i : S20x16x2048.Idx) :
    val_main_v23 (F := F) i = val_main_cst (F := F) (idx_main_v23 i) := by
  unfold val_main_v23
  generalize val_main_cst (F := F) = y
  exact broadcastInDim_apply _ bcast_S_S20x16x2048 y i (idx_main_v23 i) (fun a => a.elim0)

-- %24 = stablehlo.multiply %22, %23 : tensor<20x16x2048xf32>
def val_main_v24 (x2 : (⟨S20x2048x16, .f32⟩ : BufTy).Contents (Elt F)) : (⟨S20x16x2048, .f32⟩ : BufTy).Contents (Elt F) :=
  mulf (val_main_v22 (F := F) x2) (val_main_v23 (F := F))
theorem val_main_v24_apply (x2 : (⟨S20x2048x16, .f32⟩ : BufTy).Contents (Elt F)) (i : S20x16x2048.Idx) :
    val_main_v24 (F := F) x2 i = FloatOps.mulf (val_main_v22 (F := F) x2 i) (val_main_v23 (F := F) i) := rfl

-- %25 = stablehlo.broadcast_in_dim %24, dims = [0, 1, 3] : (tensor<20x16x2048xf32>) -> tensor<20x16x1x2048xf32>
def val_main_v25 (x2 : (⟨S20x2048x16, .f32⟩ : BufTy).Contents (Elt F)) : (⟨S20x16x1x2048, .f32⟩ : BufTy).Contents (Elt F) :=
  broadcastInDim S20x16x1x2048 ![0, 1, 3] bcast_S20x16x2048_S20x16x1x2048_0_1_3 (val_main_v24 (F := F) x2)
abbrev idx_main_v25 (i : S20x16x1x2048.Idx) : S20x16x2048.Idx := fun a => match a with
  | ⟨0, _⟩ => ⟨(i 0).val, (i 0).isLt⟩
  | ⟨1, _⟩ => ⟨(i 1).val, (i 1).isLt⟩
  | ⟨2, _⟩ => ⟨(i 3).val, (i 3).isLt⟩
theorem val_main_v25_apply (x2 : (⟨S20x2048x16, .f32⟩ : BufTy).Contents (Elt F)) (i : S20x16x1x2048.Idx) :
    val_main_v25 (F := F) x2 i = val_main_v24 (F := F) x2 (idx_main_v25 i) := by
  unfold val_main_v25
  generalize val_main_v24 (F := F) x2 = y
  exact broadcastInDim_apply _ bcast_S20x16x2048_S20x16x1x2048_0_1_3 y i (idx_main_v25 i) (fun a => match a with
    | ⟨0, _⟩ => by show (i 0).val = if (20 : Nat) = 1 then 0 else (i 0).val; rw [if_neg (by decide)]
    | ⟨1, _⟩ => by show (i 1).val = if (16 : Nat) = 1 then 0 else (i 1).val; rw [if_neg (by decide)]
    | ⟨2, _⟩ => by show (i 3).val = if (2048 : Nat) = 1 then 0 else (i 3).val; rw [if_neg (by decide)])

-- %26 = stablehlo.broadcast_in_dim %20, dims = [0, 2, 3] : (tensor<20x300x2048xi1>) -> tensor<20x1x300x2048xi1>
def val_main_v26 (x5 : (⟨S20x300x64, .i32⟩ : BufTy).Contents (Elt F)) : (⟨S20x1x300x2048, .i1⟩ : BufTy).Contents (Elt F) :=
  broadcastInDim S20x1x300x2048 ![0, 2, 3] bcast_S20x300x2048_S20x1x300x2048_0_2_3 (val_main_v20 (F := F) x5)
abbrev idx_main_v26 (i : S20x1x300x2048.Idx) : S20x300x2048.Idx := fun a => match a with
  | ⟨0, _⟩ => ⟨(i 0).val, (i 0).isLt⟩
  | ⟨1, _⟩ => ⟨(i 2).val, (i 2).isLt⟩
  | ⟨2, _⟩ => ⟨(i 3).val, (i 3).isLt⟩
theorem val_main_v26_apply (x5 : (⟨S20x300x64, .i32⟩ : BufTy).Contents (Elt F)) (i : S20x1x300x2048.Idx) :
    val_main_v26 (F := F) x5 i = val_main_v20 (F := F) x5 (idx_main_v26 i) := by
  unfold val_main_v26
  generalize val_main_v20 (F := F) x5 = y
  exact broadcastInDim_apply _ bcast_S20x300x2048_S20x1x300x2048_0_2_3 y i (idx_main_v26 i) (fun a => match a with
    | ⟨0, _⟩ => by show (i 0).val = if (20 : Nat) = 1 then 0 else (i 0).val; rw [if_neg (by decide)]
    | ⟨1, _⟩ => by show (i 2).val = if (300 : Nat) = 1 then 0 else (i 2).val; rw [if_neg (by decide)]
    | ⟨2, _⟩ => by show (i 3).val = if (2048 : Nat) = 1 then 0 else (i 3).val; rw [if_neg (by decide)])

-- %27 = stablehlo.broadcast_in_dim %25, dims = [0, 1, 2, 3] : (tensor<20x16x1x2048xf32>) -> tensor<20x16x300x2048xf32>
def val_main_v27 (x2 : (⟨S20x2048x16, .f32⟩ : BufTy).Contents (Elt F)) : (⟨S20x16x300x2048, .f32⟩ : BufTy).Contents (Elt F) :=
  broadcastInDim S20x16x300x2048 ![0, 1, 2, 3] bcast_S20x16x1x2048_S20x16x300x2048_0_1_2_3 (val_main_v25 (F := F) x2)
abbrev idx_main_v27 (i : S20x16x300x2048.Idx) : S20x16x1x2048.Idx := fun a => match a with
  | ⟨0, _⟩ => ⟨(i 0).val, (i 0).isLt⟩
  | ⟨1, _⟩ => ⟨(i 1).val, (i 1).isLt⟩
  | ⟨2, _⟩ => ⟨0, Nat.one_pos⟩
  | ⟨3, _⟩ => ⟨(i 3).val, (i 3).isLt⟩
theorem val_main_v27_apply (x2 : (⟨S20x2048x16, .f32⟩ : BufTy).Contents (Elt F)) (i : S20x16x300x2048.Idx) :
    val_main_v27 (F := F) x2 i = val_main_v25 (F := F) x2 (idx_main_v27 i) := by
  unfold val_main_v27
  generalize val_main_v25 (F := F) x2 = y
  exact broadcastInDim_apply _ bcast_S20x16x1x2048_S20x16x300x2048_0_1_2_3 y i (idx_main_v27 i) (fun a => match a with
    | ⟨0, _⟩ => by show (i 0).val = if (20 : Nat) = 1 then 0 else (i 0).val; rw [if_neg (by decide)]
    | ⟨1, _⟩ => by show (i 1).val = if (16 : Nat) = 1 then 0 else (i 1).val; rw [if_neg (by decide)]
    | ⟨2, _⟩ => by show 0 = if (1 : Nat) = 1 then 0 else (i 2).val; rw [if_pos rfl]
    | ⟨3, _⟩ => by show (i 3).val = if (2048 : Nat) = 1 then 0 else (i 3).val; rw [if_neg (by decide)])

-- %28 = stablehlo.multiply %21, %27 : tensor<20x16x300x2048xf32>
def val_main_v28 (x0 : (⟨S20x300x16x32, .bf16⟩ : BufTy).Contents (Elt F)) (x2 : (⟨S20x2048x16, .f32⟩ : BufTy).Contents (Elt F)) (r0 : (⟨S20x2048x16x32, .bf16⟩ : BufTy).Contents (Elt F)) : (⟨S20x16x300x2048, .f32⟩ : BufTy).Contents (Elt F) :=
  mulf (val_main_v21 (F := F) x0 r0) (val_main_v27 (F := F) x2)
theorem val_main_v28_apply (x0 : (⟨S20x300x16x32, .bf16⟩ : BufTy).Contents (Elt F)) (x2 : (⟨S20x2048x16, .f32⟩ : BufTy).Contents (Elt F)) (r0 : (⟨S20x2048x16x32, .bf16⟩ : BufTy).Contents (Elt F)) (i : S20x16x300x2048.Idx) :
    val_main_v28 (F := F) x0 x2 r0 i = FloatOps.mulf (val_main_v21 (F := F) x0 r0 i) (val_main_v27 (F := F) x2 i) := rfl

-- %cst_3 = stablehlo.constant dense<0xFF800000> : tensor<f32>
def val_main_cst_3 : (⟨S_, .f32⟩ : BufTy).Contents (Elt F) :=
  constant S_ .f32 0xFF800000#32
theorem val_main_cst_3_apply (i : S_.Idx) :
    val_main_cst_3 (F := F) i = FloatOps.ofBits .f32 0xFF800000#32 := rfl

-- @_where's %0 = stablehlo.convert %arg2 : tensor<f32>, in %29 = func.call @_where(…) (record main_call0)
def val_main_call0_v0 : (⟨S_, .f32⟩ : BufTy).Contents (Elt F) :=
  id (val_main_cst_3 (F := F))
theorem val_main_call0_v0_apply (i : S_.Idx) :
    val_main_call0_v0 (F := F) i = (val_main_cst_3 (F := F) i) := rfl

-- @_where's %1 = stablehlo.broadcast_in_dim %arg0, dims = [0, 1, 2, 3] : (tensor<20x1x300x2048xi1>) -> tensor<20x16x300x2048xi1>, in %29 = func.call @_where(…) (record main_call0)
def val_main_call0_v1 (x5 : (⟨S20x300x64, .i32⟩ : BufTy).Contents (Elt F)) : (⟨S20x16x300x2048, .i1⟩ : BufTy).Contents (Elt F) :=
  broadcastInDim S20x16x300x2048 ![0, 1, 2, 3] bcast_S20x1x300x2048_S20x16x300x2048_0_1_2_3 (val_main_v26 (F := F) x5)
abbrev idx_main_call0_v1 (i : S20x16x300x2048.Idx) : S20x1x300x2048.Idx := fun a => match a with
  | ⟨0, _⟩ => ⟨(i 0).val, (i 0).isLt⟩
  | ⟨1, _⟩ => ⟨0, Nat.one_pos⟩
  | ⟨2, _⟩ => ⟨(i 2).val, (i 2).isLt⟩
  | ⟨3, _⟩ => ⟨(i 3).val, (i 3).isLt⟩
theorem val_main_call0_v1_apply (x5 : (⟨S20x300x64, .i32⟩ : BufTy).Contents (Elt F)) (i : S20x16x300x2048.Idx) :
    val_main_call0_v1 (F := F) x5 i = val_main_v26 (F := F) x5 (idx_main_call0_v1 i) := by
  unfold val_main_call0_v1
  generalize val_main_v26 (F := F) x5 = y
  exact broadcastInDim_apply _ bcast_S20x1x300x2048_S20x16x300x2048_0_1_2_3 y i (idx_main_call0_v1 i) (fun a => match a with
    | ⟨0, _⟩ => by show (i 0).val = if (20 : Nat) = 1 then 0 else (i 0).val; rw [if_neg (by decide)]
    | ⟨1, _⟩ => by show 0 = if (1 : Nat) = 1 then 0 else (i 1).val; rw [if_pos rfl]
    | ⟨2, _⟩ => by show (i 2).val = if (300 : Nat) = 1 then 0 else (i 2).val; rw [if_neg (by decide)]
    | ⟨3, _⟩ => by show (i 3).val = if (2048 : Nat) = 1 then 0 else (i 3).val; rw [if_neg (by decide)])

-- @_where's %2 = stablehlo.broadcast_in_dim %0, dims = [] : (tensor<f32>) -> tensor<20x16x300x2048xf32>, in %29 = func.call @_where(…) (record main_call0)
def val_main_call0_v2 : (⟨S20x16x300x2048, .f32⟩ : BufTy).Contents (Elt F) :=
  broadcastInDim S20x16x300x2048 ![] bcast_S_S20x16x300x2048 (val_main_call0_v0 (F := F))
abbrev idx_main_call0_v2 (i : S20x16x300x2048.Idx) : S_.Idx := fun a => a.elim0
theorem val_main_call0_v2_apply (i : S20x16x300x2048.Idx) :
    val_main_call0_v2 (F := F) i = val_main_call0_v0 (F := F) (idx_main_call0_v2 i) := by
  unfold val_main_call0_v2
  generalize val_main_call0_v0 (F := F) = y
  exact broadcastInDim_apply _ bcast_S_S20x16x300x2048 y i (idx_main_call0_v2 i) (fun a => a.elim0)

-- %29 = func.call @_where(…) (record main_call0) result 0: @_where's %3 = stablehlo.select %1, %arg1, %2 : tensor<20x16x300x2048xi1>, tensor<20x16x300x2048xf32>
def val_main_v29 (x0 : (⟨S20x300x16x32, .bf16⟩ : BufTy).Contents (Elt F)) (x2 : (⟨S20x2048x16, .f32⟩ : BufTy).Contents (Elt F)) (x5 : (⟨S20x300x64, .i32⟩ : BufTy).Contents (Elt F)) (r0 : (⟨S20x2048x16x32, .bf16⟩ : BufTy).Contents (Elt F)) : (⟨S20x16x300x2048, .f32⟩ : BufTy).Contents (Elt F) :=
  select (val_main_call0_v1 (F := F) x5) (val_main_v28 (F := F) x0 x2 r0) (val_main_call0_v2 (F := F))
theorem val_main_v29_apply (x0 : (⟨S20x300x16x32, .bf16⟩ : BufTy).Contents (Elt F)) (x2 : (⟨S20x2048x16, .f32⟩ : BufTy).Contents (Elt F)) (x5 : (⟨S20x300x64, .i32⟩ : BufTy).Contents (Elt F)) (r0 : (⟨S20x2048x16x32, .bf16⟩ : BufTy).Contents (Elt F)) (i : S20x16x300x2048.Idx) :
    val_main_v29 (F := F) x0 x2 x5 r0 i = Scalar.select (val_main_call0_v1 (F := F) x5 i) (val_main_v28 (F := F) x0 x2 r0 i) (val_main_call0_v2 (F := F) i) := rfl

-- %cst_4 = stablehlo.constant dense<0xFF800000> : tensor<f32>
def val_main_cst_4 : (⟨S_, .f32⟩ : BufTy).Contents (Elt F) :=
  constant S_ .f32 0xFF800000#32
theorem val_main_cst_4_apply (i : S_.Idx) :
    val_main_cst_4 (F := F) i = FloatOps.ofBits .f32 0xFF800000#32 := rfl

-- %30 = stablehlo.reduce(%29 init: %cst_4) applies stablehlo.maximum across dimensions = [3] : (tensor<20x16x300x2048xf32>, tensor<f32>) -> tensor<20x16x300xf32> {
def val_main_v30 (x0 : (⟨S20x300x16x32, .bf16⟩ : BufTy).Contents (Elt F)) (x2 : (⟨S20x2048x16, .f32⟩ : BufTy).Contents (Elt F)) (x5 : (⟨S20x300x64, .i32⟩ : BufTy).Contents (Elt F)) (r0 : (⟨S20x2048x16x32, .bf16⟩ : BufTy).Contents (Elt F)) : (⟨S20x16x300, .f32⟩ : BufTy).Contents (Elt F) :=
  Host.reduce FloatOps.maximumf (val_main_v29 (F := F) x0 x2 x5 r0) (val_main_cst_4 (F := F)) reducesTo_S20x16x300x2048_S20x16x300_d3 h_S_

-- %cst_5 = stablehlo.constant dense<0xFF800000> : tensor<f32>
def val_main_cst_5 : (⟨S_, .f32⟩ : BufTy).Contents (Elt F) :=
  constant S_ .f32 0xFF800000#32
theorem val_main_cst_5_apply (i : S_.Idx) :
    val_main_cst_5 (F := F) i = FloatOps.ofBits .f32 0xFF800000#32 := rfl

-- %31 = stablehlo.broadcast_in_dim %cst_5, dims = [] : (tensor<f32>) -> tensor<20x16x300xf32>
def val_main_v31 : (⟨S20x16x300, .f32⟩ : BufTy).Contents (Elt F) :=
  broadcastInDim S20x16x300 ![] bcast_S_S20x16x300 (val_main_cst_5 (F := F))
abbrev idx_main_v31 (i : S20x16x300.Idx) : S_.Idx := fun a => a.elim0
theorem val_main_v31_apply (i : S20x16x300.Idx) :
    val_main_v31 (F := F) i = val_main_cst_5 (F := F) (idx_main_v31 i) := by
  unfold val_main_v31
  generalize val_main_cst_5 (F := F) = y
  exact broadcastInDim_apply _ bcast_S_S20x16x300 y i (idx_main_v31 i) (fun a => a.elim0)

-- %32 = stablehlo.maximum %31, %30 : tensor<20x16x300xf32>
def val_main_v32 (x0 : (⟨S20x300x16x32, .bf16⟩ : BufTy).Contents (Elt F)) (x2 : (⟨S20x2048x16, .f32⟩ : BufTy).Contents (Elt F)) (x5 : (⟨S20x300x64, .i32⟩ : BufTy).Contents (Elt F)) (r0 : (⟨S20x2048x16x32, .bf16⟩ : BufTy).Contents (Elt F)) : (⟨S20x16x300, .f32⟩ : BufTy).Contents (Elt F) :=
  maximumf (val_main_v31 (F := F)) (val_main_v30 (F := F) x0 x2 x5 r0)
theorem val_main_v32_apply (x0 : (⟨S20x300x16x32, .bf16⟩ : BufTy).Contents (Elt F)) (x2 : (⟨S20x2048x16, .f32⟩ : BufTy).Contents (Elt F)) (x5 : (⟨S20x300x64, .i32⟩ : BufTy).Contents (Elt F)) (r0 : (⟨S20x2048x16x32, .bf16⟩ : BufTy).Contents (Elt F)) (i : S20x16x300.Idx) :
    val_main_v32 (F := F) x0 x2 x5 r0 i = FloatOps.maximumf (val_main_v31 (F := F) i) (val_main_v30 (F := F) x0 x2 x5 r0 i) := rfl

-- %33 = stablehlo.broadcast_in_dim %32, dims = [0, 1, 2] : (tensor<20x16x300xf32>) -> tensor<20x16x300x1xf32>
def val_main_v33 (x0 : (⟨S20x300x16x32, .bf16⟩ : BufTy).Contents (Elt F)) (x2 : (⟨S20x2048x16, .f32⟩ : BufTy).Contents (Elt F)) (x5 : (⟨S20x300x64, .i32⟩ : BufTy).Contents (Elt F)) (r0 : (⟨S20x2048x16x32, .bf16⟩ : BufTy).Contents (Elt F)) : (⟨S20x16x300x1, .f32⟩ : BufTy).Contents (Elt F) :=
  broadcastInDim S20x16x300x1 ![0, 1, 2] bcast_S20x16x300_S20x16x300x1_0_1_2 (val_main_v32 (F := F) x0 x2 x5 r0)
abbrev idx_main_v33 (i : S20x16x300x1.Idx) : S20x16x300.Idx := fun a => match a with
  | ⟨0, _⟩ => ⟨(i 0).val, (i 0).isLt⟩
  | ⟨1, _⟩ => ⟨(i 1).val, (i 1).isLt⟩
  | ⟨2, _⟩ => ⟨(i 2).val, (i 2).isLt⟩
theorem val_main_v33_apply (x0 : (⟨S20x300x16x32, .bf16⟩ : BufTy).Contents (Elt F)) (x2 : (⟨S20x2048x16, .f32⟩ : BufTy).Contents (Elt F)) (x5 : (⟨S20x300x64, .i32⟩ : BufTy).Contents (Elt F)) (r0 : (⟨S20x2048x16x32, .bf16⟩ : BufTy).Contents (Elt F)) (i : S20x16x300x1.Idx) :
    val_main_v33 (F := F) x0 x2 x5 r0 i = val_main_v32 (F := F) x0 x2 x5 r0 (idx_main_v33 i) := by
  unfold val_main_v33
  generalize val_main_v32 (F := F) x0 x2 x5 r0 = y
  exact broadcastInDim_apply _ bcast_S20x16x300_S20x16x300x1_0_1_2 y i (idx_main_v33 i) (fun a => match a with
    | ⟨0, _⟩ => by show (i 0).val = if (20 : Nat) = 1 then 0 else (i 0).val; rw [if_neg (by decide)]
    | ⟨1, _⟩ => by show (i 1).val = if (16 : Nat) = 1 then 0 else (i 1).val; rw [if_neg (by decide)]
    | ⟨2, _⟩ => by show (i 2).val = if (300 : Nat) = 1 then 0 else (i 2).val; rw [if_neg (by decide)])

-- %34 = stablehlo.broadcast_in_dim %33, dims = [0, 1, 2, 3] : (tensor<20x16x300x1xf32>) -> tensor<20x16x300x2048xf32>
def val_main_v34 (x0 : (⟨S20x300x16x32, .bf16⟩ : BufTy).Contents (Elt F)) (x2 : (⟨S20x2048x16, .f32⟩ : BufTy).Contents (Elt F)) (x5 : (⟨S20x300x64, .i32⟩ : BufTy).Contents (Elt F)) (r0 : (⟨S20x2048x16x32, .bf16⟩ : BufTy).Contents (Elt F)) : (⟨S20x16x300x2048, .f32⟩ : BufTy).Contents (Elt F) :=
  broadcastInDim S20x16x300x2048 ![0, 1, 2, 3] bcast_S20x16x300x1_S20x16x300x2048_0_1_2_3 (val_main_v33 (F := F) x0 x2 x5 r0)
abbrev idx_main_v34 (i : S20x16x300x2048.Idx) : S20x16x300x1.Idx := fun a => match a with
  | ⟨0, _⟩ => ⟨(i 0).val, (i 0).isLt⟩
  | ⟨1, _⟩ => ⟨(i 1).val, (i 1).isLt⟩
  | ⟨2, _⟩ => ⟨(i 2).val, (i 2).isLt⟩
  | ⟨3, _⟩ => ⟨0, Nat.one_pos⟩
theorem val_main_v34_apply (x0 : (⟨S20x300x16x32, .bf16⟩ : BufTy).Contents (Elt F)) (x2 : (⟨S20x2048x16, .f32⟩ : BufTy).Contents (Elt F)) (x5 : (⟨S20x300x64, .i32⟩ : BufTy).Contents (Elt F)) (r0 : (⟨S20x2048x16x32, .bf16⟩ : BufTy).Contents (Elt F)) (i : S20x16x300x2048.Idx) :
    val_main_v34 (F := F) x0 x2 x5 r0 i = val_main_v33 (F := F) x0 x2 x5 r0 (idx_main_v34 i) := by
  unfold val_main_v34
  generalize val_main_v33 (F := F) x0 x2 x5 r0 = y
  exact broadcastInDim_apply _ bcast_S20x16x300x1_S20x16x300x2048_0_1_2_3 y i (idx_main_v34 i) (fun a => match a with
    | ⟨0, _⟩ => by show (i 0).val = if (20 : Nat) = 1 then 0 else (i 0).val; rw [if_neg (by decide)]
    | ⟨1, _⟩ => by show (i 1).val = if (16 : Nat) = 1 then 0 else (i 1).val; rw [if_neg (by decide)]
    | ⟨2, _⟩ => by show (i 2).val = if (300 : Nat) = 1 then 0 else (i 2).val; rw [if_neg (by decide)]
    | ⟨3, _⟩ => by show 0 = if (1 : Nat) = 1 then 0 else (i 3).val; rw [if_pos rfl])

-- %35 = stablehlo.subtract %29, %34 : tensor<20x16x300x2048xf32>
def val_main_v35 (x0 : (⟨S20x300x16x32, .bf16⟩ : BufTy).Contents (Elt F)) (x2 : (⟨S20x2048x16, .f32⟩ : BufTy).Contents (Elt F)) (x5 : (⟨S20x300x64, .i32⟩ : BufTy).Contents (Elt F)) (r0 : (⟨S20x2048x16x32, .bf16⟩ : BufTy).Contents (Elt F)) : (⟨S20x16x300x2048, .f32⟩ : BufTy).Contents (Elt F) :=
  subf (val_main_v29 (F := F) x0 x2 x5 r0) (val_main_v34 (F := F) x0 x2 x5 r0)
theorem val_main_v35_apply (x0 : (⟨S20x300x16x32, .bf16⟩ : BufTy).Contents (Elt F)) (x2 : (⟨S20x2048x16, .f32⟩ : BufTy).Contents (Elt F)) (x5 : (⟨S20x300x64, .i32⟩ : BufTy).Contents (Elt F)) (r0 : (⟨S20x2048x16x32, .bf16⟩ : BufTy).Contents (Elt F)) (i : S20x16x300x2048.Idx) :
    val_main_v35 (F := F) x0 x2 x5 r0 i = FloatOps.subf (val_main_v29 (F := F) x0 x2 x5 r0 i) (val_main_v34 (F := F) x0 x2 x5 r0 i) := rfl

-- %36 = stablehlo.exponential %35 : tensor<20x16x300x2048xf32>
def val_main_v36 (x0 : (⟨S20x300x16x32, .bf16⟩ : BufTy).Contents (Elt F)) (x2 : (⟨S20x2048x16, .f32⟩ : BufTy).Contents (Elt F)) (x5 : (⟨S20x300x64, .i32⟩ : BufTy).Contents (Elt F)) (r0 : (⟨S20x2048x16x32, .bf16⟩ : BufTy).Contents (Elt F)) : (⟨S20x16x300x2048, .f32⟩ : BufTy).Contents (Elt F) :=
  Host.exp (val_main_v35 (F := F) x0 x2 x5 r0)
theorem val_main_v36_apply (x0 : (⟨S20x300x16x32, .bf16⟩ : BufTy).Contents (Elt F)) (x2 : (⟨S20x2048x16, .f32⟩ : BufTy).Contents (Elt F)) (x5 : (⟨S20x300x64, .i32⟩ : BufTy).Contents (Elt F)) (r0 : (⟨S20x2048x16x32, .bf16⟩ : BufTy).Contents (Elt F)) (i : S20x16x300x2048.Idx) :
    val_main_v36 (F := F) x0 x2 x5 r0 i = FloatOps.hostUnary .exp (val_main_v35 (F := F) x0 x2 x5 r0 i) := rfl

-- %cst_6 = stablehlo.constant dense<0.000000e+00> : tensor<f32>
def val_main_cst_6 : (⟨S_, .f32⟩ : BufTy).Contents (Elt F) :=
  constant S_ .f32 0x00000000#32
theorem val_main_cst_6_apply (i : S_.Idx) :
    val_main_cst_6 (F := F) i = FloatOps.ofBits .f32 0x00000000#32 := rfl

-- %37 = stablehlo.reduce(%36 init: %cst_6) applies stablehlo.add across dimensions = [3] : (tensor<20x16x300x2048xf32>, tensor<f32>) -> tensor<20x16x300xf32> {
def val_main_v37 (x0 : (⟨S20x300x16x32, .bf16⟩ : BufTy).Contents (Elt F)) (x2 : (⟨S20x2048x16, .f32⟩ : BufTy).Contents (Elt F)) (x5 : (⟨S20x300x64, .i32⟩ : BufTy).Contents (Elt F)) (r0 : (⟨S20x2048x16x32, .bf16⟩ : BufTy).Contents (Elt F)) : (⟨S20x16x300, .f32⟩ : BufTy).Contents (Elt F) :=
  Host.reduceAdd (val_main_v36 (F := F) x0 x2 x5 r0) (val_main_cst_6 (F := F)) reducesTo_S20x16x300x2048_S20x16x300_d3 h_S_
abbrev idx_main_v37 (i : S20x16x300.Idx) (k : Fin 2048) : S20x16x300x2048.Idx := fun a => match a with
  | ⟨0, _⟩ => ⟨(i 0).val, (i 0).isLt⟩
  | ⟨1, _⟩ => ⟨(i 1).val, (i 1).isLt⟩
  | ⟨2, _⟩ => ⟨(i 2).val, (i 2).isLt⟩
  | ⟨3, _⟩ => ⟨k.val, k.isLt⟩
/-- Stated at `F := Ideal`, where the host's float sum is this sum; at a bit-exact instance it is an opaque function of its operand. -/
theorem val_main_v37_apply (x0 : (⟨S20x300x16x32, .bf16⟩ : BufTy).Contents (Elt Ideal)) (x2 : (⟨S20x2048x16, .f32⟩ : BufTy).Contents (Elt Ideal)) (x5 : (⟨S20x300x64, .i32⟩ : BufTy).Contents (Elt Ideal)) (r0 : (⟨S20x2048x16x32, .bf16⟩ : BufTy).Contents (Elt Ideal)) (i : S20x16x300.Idx) :
    val_main_v37 (F := Ideal) x0 x2 x5 r0 i = (val_main_cst_6 (F := Ideal)) (Shape.Idx.first h_S_) + ∑ k : Fin 2048, (val_main_v36 (F := Ideal) x0 x2 x5 r0) (idx_main_v37 i k) := by
  unfold val_main_v37
  generalize val_main_v36 (F := Ideal) x0 x2 x5 r0 = y0
  simp only [Host.reduceAdd, Ideal.hostReduceAdd_def]
  rw [Ideal.hostReduceAdd_single reducesTo_S20x16x300x2048_S20x16x300_d3 (by decide)]
  refine congrArg (_ + ·) (Finset.sum_congr rfl fun k _ => ?_)
  exact congrArg y0 (funext fun a => Fin.ext (by match a with | ⟨0, _⟩ => rfl | ⟨1, _⟩ => rfl | ⟨2, _⟩ => rfl | ⟨3, _⟩ => rfl))

-- %38 = stablehlo.broadcast_in_dim %37, dims = [0, 1, 2] : (tensor<20x16x300xf32>) -> tensor<20x16x300x1xf32>
def val_main_v38 (x0 : (⟨S20x300x16x32, .bf16⟩ : BufTy).Contents (Elt F)) (x2 : (⟨S20x2048x16, .f32⟩ : BufTy).Contents (Elt F)) (x5 : (⟨S20x300x64, .i32⟩ : BufTy).Contents (Elt F)) (r0 : (⟨S20x2048x16x32, .bf16⟩ : BufTy).Contents (Elt F)) : (⟨S20x16x300x1, .f32⟩ : BufTy).Contents (Elt F) :=
  broadcastInDim S20x16x300x1 ![0, 1, 2] bcast_S20x16x300_S20x16x300x1_0_1_2 (val_main_v37 (F := F) x0 x2 x5 r0)
abbrev idx_main_v38 (i : S20x16x300x1.Idx) : S20x16x300.Idx := fun a => match a with
  | ⟨0, _⟩ => ⟨(i 0).val, (i 0).isLt⟩
  | ⟨1, _⟩ => ⟨(i 1).val, (i 1).isLt⟩
  | ⟨2, _⟩ => ⟨(i 2).val, (i 2).isLt⟩
theorem val_main_v38_apply (x0 : (⟨S20x300x16x32, .bf16⟩ : BufTy).Contents (Elt F)) (x2 : (⟨S20x2048x16, .f32⟩ : BufTy).Contents (Elt F)) (x5 : (⟨S20x300x64, .i32⟩ : BufTy).Contents (Elt F)) (r0 : (⟨S20x2048x16x32, .bf16⟩ : BufTy).Contents (Elt F)) (i : S20x16x300x1.Idx) :
    val_main_v38 (F := F) x0 x2 x5 r0 i = val_main_v37 (F := F) x0 x2 x5 r0 (idx_main_v38 i) := by
  unfold val_main_v38
  generalize val_main_v37 (F := F) x0 x2 x5 r0 = y
  exact broadcastInDim_apply _ bcast_S20x16x300_S20x16x300x1_0_1_2 y i (idx_main_v38 i) (fun a => match a with
    | ⟨0, _⟩ => by show (i 0).val = if (20 : Nat) = 1 then 0 else (i 0).val; rw [if_neg (by decide)]
    | ⟨1, _⟩ => by show (i 1).val = if (16 : Nat) = 1 then 0 else (i 1).val; rw [if_neg (by decide)]
    | ⟨2, _⟩ => by show (i 2).val = if (300 : Nat) = 1 then 0 else (i 2).val; rw [if_neg (by decide)])

-- %39 = stablehlo.broadcast_in_dim %38, dims = [0, 1, 2, 3] : (tensor<20x16x300x1xf32>) -> tensor<20x16x300x2048xf32>
def val_main_v39 (x0 : (⟨S20x300x16x32, .bf16⟩ : BufTy).Contents (Elt F)) (x2 : (⟨S20x2048x16, .f32⟩ : BufTy).Contents (Elt F)) (x5 : (⟨S20x300x64, .i32⟩ : BufTy).Contents (Elt F)) (r0 : (⟨S20x2048x16x32, .bf16⟩ : BufTy).Contents (Elt F)) : (⟨S20x16x300x2048, .f32⟩ : BufTy).Contents (Elt F) :=
  broadcastInDim S20x16x300x2048 ![0, 1, 2, 3] bcast_S20x16x300x1_S20x16x300x2048_0_1_2_3 (val_main_v38 (F := F) x0 x2 x5 r0)
abbrev idx_main_v39 (i : S20x16x300x2048.Idx) : S20x16x300x1.Idx := fun a => match a with
  | ⟨0, _⟩ => ⟨(i 0).val, (i 0).isLt⟩
  | ⟨1, _⟩ => ⟨(i 1).val, (i 1).isLt⟩
  | ⟨2, _⟩ => ⟨(i 2).val, (i 2).isLt⟩
  | ⟨3, _⟩ => ⟨0, Nat.one_pos⟩
theorem val_main_v39_apply (x0 : (⟨S20x300x16x32, .bf16⟩ : BufTy).Contents (Elt F)) (x2 : (⟨S20x2048x16, .f32⟩ : BufTy).Contents (Elt F)) (x5 : (⟨S20x300x64, .i32⟩ : BufTy).Contents (Elt F)) (r0 : (⟨S20x2048x16x32, .bf16⟩ : BufTy).Contents (Elt F)) (i : S20x16x300x2048.Idx) :
    val_main_v39 (F := F) x0 x2 x5 r0 i = val_main_v38 (F := F) x0 x2 x5 r0 (idx_main_v39 i) := by
  unfold val_main_v39
  generalize val_main_v38 (F := F) x0 x2 x5 r0 = y
  exact broadcastInDim_apply _ bcast_S20x16x300x1_S20x16x300x2048_0_1_2_3 y i (idx_main_v39 i) (fun a => match a with
    | ⟨0, _⟩ => by show (i 0).val = if (20 : Nat) = 1 then 0 else (i 0).val; rw [if_neg (by decide)]
    | ⟨1, _⟩ => by show (i 1).val = if (16 : Nat) = 1 then 0 else (i 1).val; rw [if_neg (by decide)]
    | ⟨2, _⟩ => by show (i 2).val = if (300 : Nat) = 1 then 0 else (i 2).val; rw [if_neg (by decide)]
    | ⟨3, _⟩ => by show 0 = if (1 : Nat) = 1 then 0 else (i 3).val; rw [if_pos rfl])

-- %40 = stablehlo.divide %36, %39 : tensor<20x16x300x2048xf32>
def val_main_v40 (x0 : (⟨S20x300x16x32, .bf16⟩ : BufTy).Contents (Elt F)) (x2 : (⟨S20x2048x16, .f32⟩ : BufTy).Contents (Elt F)) (x5 : (⟨S20x300x64, .i32⟩ : BufTy).Contents (Elt F)) (r0 : (⟨S20x2048x16x32, .bf16⟩ : BufTy).Contents (Elt F)) : (⟨S20x16x300x2048, .f32⟩ : BufTy).Contents (Elt F) :=
  Host.divf (val_main_v36 (F := F) x0 x2 x5 r0) (val_main_v39 (F := F) x0 x2 x5 r0)
theorem val_main_v40_apply (x0 : (⟨S20x300x16x32, .bf16⟩ : BufTy).Contents (Elt F)) (x2 : (⟨S20x2048x16, .f32⟩ : BufTy).Contents (Elt F)) (x5 : (⟨S20x300x64, .i32⟩ : BufTy).Contents (Elt F)) (r0 : (⟨S20x2048x16x32, .bf16⟩ : BufTy).Contents (Elt F)) (i : S20x16x300x2048.Idx) :
    val_main_v40 (F := F) x0 x2 x5 r0 i = FloatOps.hostDivf (val_main_v36 (F := F) x0 x2 x5 r0 i) (val_main_v39 (F := F) x0 x2 x5 r0 i) := rfl

-- %41 = stablehlo.transpose %arg4, dims = [0, 2, 1] : (tensor<20x2048x16xf32>) -> tensor<20x16x2048xf32>
def val_main_v41 (x4 : (⟨S20x2048x16, .f32⟩ : BufTy).Contents (Elt F)) : (⟨S20x16x2048, .f32⟩ : BufTy).Contents (Elt F) :=
  transpose S20x16x2048 [0, 2, 1] (x4) transposes_S20x2048x16_S20x16x2048_0_2_1
abbrev idx_main_v41 (i : S20x16x2048.Idx) : S20x2048x16.Idx := fun a => match a with
  | ⟨0, _⟩ => ⟨(i 0).val, (i 0).isLt⟩
  | ⟨1, _⟩ => ⟨(i 2).val, (i 2).isLt⟩
  | ⟨2, _⟩ => ⟨(i 1).val, (i 1).isLt⟩
theorem val_main_v41_apply (x4 : (⟨S20x2048x16, .f32⟩ : BufTy).Contents (Elt F)) (i : S20x16x2048.Idx) :
    val_main_v41 (F := F) x4 i = x4 (idx_main_v41 i) := by
  unfold val_main_v41
  exact transpose_apply [0, 2, 1] x4 transposes_S20x2048x16_S20x16x2048_0_2_1 i (idx_main_v41 i) (fun b => match b with
    | ⟨0, _⟩ => rfl
    | ⟨1, _⟩ => rfl
    | ⟨2, _⟩ => rfl)

-- %42 = stablehlo.broadcast_in_dim %41, dims = [0, 1, 3] : (tensor<20x16x2048xf32>) -> tensor<20x16x1x2048xf32>
def val_main_v42 (x4 : (⟨S20x2048x16, .f32⟩ : BufTy).Contents (Elt F)) : (⟨S20x16x1x2048, .f32⟩ : BufTy).Contents (Elt F) :=
  broadcastInDim S20x16x1x2048 ![0, 1, 3] bcast_S20x16x2048_S20x16x1x2048_0_1_3 (val_main_v41 (F := F) x4)
abbrev idx_main_v42 (i : S20x16x1x2048.Idx) : S20x16x2048.Idx := fun a => match a with
  | ⟨0, _⟩ => ⟨(i 0).val, (i 0).isLt⟩
  | ⟨1, _⟩ => ⟨(i 1).val, (i 1).isLt⟩
  | ⟨2, _⟩ => ⟨(i 3).val, (i 3).isLt⟩
theorem val_main_v42_apply (x4 : (⟨S20x2048x16, .f32⟩ : BufTy).Contents (Elt F)) (i : S20x16x1x2048.Idx) :
    val_main_v42 (F := F) x4 i = val_main_v41 (F := F) x4 (idx_main_v42 i) := by
  unfold val_main_v42
  generalize val_main_v41 (F := F) x4 = y
  exact broadcastInDim_apply _ bcast_S20x16x2048_S20x16x1x2048_0_1_3 y i (idx_main_v42 i) (fun a => match a with
    | ⟨0, _⟩ => by show (i 0).val = if (20 : Nat) = 1 then 0 else (i 0).val; rw [if_neg (by decide)]
    | ⟨1, _⟩ => by show (i 1).val = if (16 : Nat) = 1 then 0 else (i 1).val; rw [if_neg (by decide)]
    | ⟨2, _⟩ => by show (i 3).val = if (2048 : Nat) = 1 then 0 else (i 3).val; rw [if_neg (by decide)])

-- %43 = stablehlo.broadcast_in_dim %42, dims = [0, 1, 2, 3] : (tensor<20x16x1x2048xf32>) -> tensor<20x16x300x2048xf32>
def val_main_v43 (x4 : (⟨S20x2048x16, .f32⟩ : BufTy).Contents (Elt F)) : (⟨S20x16x300x2048, .f32⟩ : BufTy).Contents (Elt F) :=
  broadcastInDim S20x16x300x2048 ![0, 1, 2, 3] bcast_S20x16x1x2048_S20x16x300x2048_0_1_2_3 (val_main_v42 (F := F) x4)
abbrev idx_main_v43 (i : S20x16x300x2048.Idx) : S20x16x1x2048.Idx := fun a => match a with
  | ⟨0, _⟩ => ⟨(i 0).val, (i 0).isLt⟩
  | ⟨1, _⟩ => ⟨(i 1).val, (i 1).isLt⟩
  | ⟨2, _⟩ => ⟨0, Nat.one_pos⟩
  | ⟨3, _⟩ => ⟨(i 3).val, (i 3).isLt⟩
theorem val_main_v43_apply (x4 : (⟨S20x2048x16, .f32⟩ : BufTy).Contents (Elt F)) (i : S20x16x300x2048.Idx) :
    val_main_v43 (F := F) x4 i = val_main_v42 (F := F) x4 (idx_main_v43 i) := by
  unfold val_main_v43
  generalize val_main_v42 (F := F) x4 = y
  exact broadcastInDim_apply _ bcast_S20x16x1x2048_S20x16x300x2048_0_1_2_3 y i (idx_main_v43 i) (fun a => match a with
    | ⟨0, _⟩ => by show (i 0).val = if (20 : Nat) = 1 then 0 else (i 0).val; rw [if_neg (by decide)]
    | ⟨1, _⟩ => by show (i 1).val = if (16 : Nat) = 1 then 0 else (i 1).val; rw [if_neg (by decide)]
    | ⟨2, _⟩ => by show 0 = if (1 : Nat) = 1 then 0 else (i 2).val; rw [if_pos rfl]
    | ⟨3, _⟩ => by show (i 3).val = if (2048 : Nat) = 1 then 0 else (i 3).val; rw [if_neg (by decide)])

-- %44 = stablehlo.multiply %40, %43 : tensor<20x16x300x2048xf32>
def val_main_v44 (x0 : (⟨S20x300x16x32, .bf16⟩ : BufTy).Contents (Elt F)) (x2 x4 : (⟨S20x2048x16, .f32⟩ : BufTy).Contents (Elt F)) (x5 : (⟨S20x300x64, .i32⟩ : BufTy).Contents (Elt F)) (r0 : (⟨S20x2048x16x32, .bf16⟩ : BufTy).Contents (Elt F)) : (⟨S20x16x300x2048, .f32⟩ : BufTy).Contents (Elt F) :=
  mulf (val_main_v40 (F := F) x0 x2 x5 r0) (val_main_v43 (F := F) x4)
theorem val_main_v44_apply (x0 : (⟨S20x300x16x32, .bf16⟩ : BufTy).Contents (Elt F)) (x2 x4 : (⟨S20x2048x16, .f32⟩ : BufTy).Contents (Elt F)) (x5 : (⟨S20x300x64, .i32⟩ : BufTy).Contents (Elt F)) (r0 : (⟨S20x2048x16x32, .bf16⟩ : BufTy).Contents (Elt F)) (i : S20x16x300x2048.Idx) :
    val_main_v44 (F := F) x0 x2 x4 x5 r0 i = FloatOps.mulf (val_main_v40 (F := F) x0 x2 x5 r0 i) (val_main_v43 (F := F) x4 i) := rfl

-- %45 = stablehlo.convert %44 : (tensor<20x16x300x2048xf32>) -> tensor<20x16x300x2048xbf16>
def val_main_v45 (x0 : (⟨S20x300x16x32, .bf16⟩ : BufTy).Contents (Elt F)) (x2 x4 : (⟨S20x2048x16, .f32⟩ : BufTy).Contents (Elt F)) (x5 : (⟨S20x300x64, .i32⟩ : BufTy).Contents (Elt F)) (r0 : (⟨S20x2048x16x32, .bf16⟩ : BufTy).Contents (Elt F)) : (⟨S20x16x300x2048, .bf16⟩ : BufTy).Contents (Elt F) :=
  truncf .bf16 (val_main_v44 (F := F) x0 x2 x4 x5 r0) bitsLt_bf16_f32
theorem val_main_v45_apply (x0 : (⟨S20x300x16x32, .bf16⟩ : BufTy).Contents (Elt F)) (x2 x4 : (⟨S20x2048x16, .f32⟩ : BufTy).Contents (Elt F)) (x5 : (⟨S20x300x64, .i32⟩ : BufTy).Contents (Elt F)) (r0 : (⟨S20x2048x16x32, .bf16⟩ : BufTy).Contents (Elt F)) (i : S20x16x300x2048.Idx) :
    val_main_v45 (F := F) x0 x2 x4 x5 r0 i = FloatOps.truncf .bf16 bitsLt_bf16_f32 (val_main_v44 (F := F) x0 x2 x4 x5 r0 i) := rfl

-- %46 = stablehlo.dot_general %1#1, %45, batching_dims = [0, 2] x [0, 1], contracting_dims = [1] x [3], precision = [DEFAULT, DEFAULT] : (tensor<20x2048x16x32xbf16>, tensor<20x16x300x2048xbf16>) -> tensor<20x16x32x300xf32>
def val_main_v46 (x0 : (⟨S20x300x16x32, .bf16⟩ : BufTy).Contents (Elt F)) (x2 x4 : (⟨S20x2048x16, .f32⟩ : BufTy).Contents (Elt F)) (x5 : (⟨S20x300x64, .i32⟩ : BufTy).Contents (Elt F)) (r0 r1 : (⟨S20x2048x16x32, .bf16⟩ : BufTy).Contents (Elt F)) : (⟨S20x16x32x300, .f32⟩ : BufTy).Contents (Elt F) :=
  Host.dotGeneral dot_S20x2048x16x32_S20x16x300x2048_S20x16x32x300_1_3_3_2_02_01 none (r1) (val_main_v45 (F := F) x0 x2 x4 x5 r0)
theorem lhs_main_v46_0 (i : S20x16x32x300.Idx) (q : dot_S20x2048x16x32_S20x16x300x2048_S20x16x32x300_1_3_3_2_02_01.contr.Idx) :
    (dot_S20x2048x16x32_S20x16x300x2048_S20x16x32x300_1_3_3_2_02_01.lhsIdx i q 0).val = (i 0).val := by
  unfold DotDims.lhsIdx
  rw [dif_pos (show (0 : Fin S20x2048x16x32.rank) ∈ dot_S20x2048x16x32_S20x16x300x2048_S20x16x32x300_1_3_3_2_02_01.lhsBatch by decide)]
  rfl
theorem lhs_main_v46_1 (i : S20x16x32x300.Idx) (q : dot_S20x2048x16x32_S20x16x300x2048_S20x16x32x300_1_3_3_2_02_01.contr.Idx) :
    (dot_S20x2048x16x32_S20x16x300x2048_S20x16x32x300_1_3_3_2_02_01.lhsIdx i q 1).val = (q ⟨0, by decide⟩).val :=
  dot_S20x2048x16x32_S20x16x300x2048_S20x16x32x300_1_3_3_2_02_01.lhsIdx_val_of_single rfl i q
theorem lhs_main_v46_2 (i : S20x16x32x300.Idx) (q : dot_S20x2048x16x32_S20x16x300x2048_S20x16x32x300_1_3_3_2_02_01.contr.Idx) :
    (dot_S20x2048x16x32_S20x16x300x2048_S20x16x32x300_1_3_3_2_02_01.lhsIdx i q 2).val = (i 1).val := by
  unfold DotDims.lhsIdx
  rw [dif_pos (show (2 : Fin S20x2048x16x32.rank) ∈ dot_S20x2048x16x32_S20x16x300x2048_S20x16x32x300_1_3_3_2_02_01.lhsBatch by decide)]
  rfl
theorem lhs_main_v46_3 (i : S20x16x32x300.Idx) (q : dot_S20x2048x16x32_S20x16x300x2048_S20x16x32x300_1_3_3_2_02_01.contr.Idx) :
    (dot_S20x2048x16x32_S20x16x300x2048_S20x16x32x300_1_3_3_2_02_01.lhsIdx i q 3).val = (i 2).val := by
  unfold DotDims.lhsIdx
  rw [dif_neg (show ¬(3 : Fin S20x2048x16x32.rank) ∈ dot_S20x2048x16x32_S20x16x300x2048_S20x16x32x300_1_3_3_2_02_01.lhsBatch by decide), dif_pos (show (3 : Fin S20x2048x16x32.rank) ∈ dot_S20x2048x16x32_S20x16x300x2048_S20x16x32x300_1_3_3_2_02_01.lhsNonContracting by decide)]
  rfl
theorem rhs_main_v46_0 (i : S20x16x32x300.Idx) (q : dot_S20x2048x16x32_S20x16x300x2048_S20x16x32x300_1_3_3_2_02_01.contr.Idx) :
    (dot_S20x2048x16x32_S20x16x300x2048_S20x16x32x300_1_3_3_2_02_01.rhsIdx i q 0).val = (i 0).val := by
  unfold DotDims.rhsIdx
  rw [dif_pos (show (0 : Fin S20x16x300x2048.rank) ∈ dot_S20x2048x16x32_S20x16x300x2048_S20x16x32x300_1_3_3_2_02_01.rhsBatch by decide)]
  rfl
theorem rhs_main_v46_1 (i : S20x16x32x300.Idx) (q : dot_S20x2048x16x32_S20x16x300x2048_S20x16x32x300_1_3_3_2_02_01.contr.Idx) :
    (dot_S20x2048x16x32_S20x16x300x2048_S20x16x32x300_1_3_3_2_02_01.rhsIdx i q 1).val = (i 1).val := by
  unfold DotDims.rhsIdx
  rw [dif_pos (show (1 : Fin S20x16x300x2048.rank) ∈ dot_S20x2048x16x32_S20x16x300x2048_S20x16x32x300_1_3_3_2_02_01.rhsBatch by decide)]
  rfl
theorem rhs_main_v46_2 (i : S20x16x32x300.Idx) (q : dot_S20x2048x16x32_S20x16x300x2048_S20x16x32x300_1_3_3_2_02_01.contr.Idx) :
    (dot_S20x2048x16x32_S20x16x300x2048_S20x16x32x300_1_3_3_2_02_01.rhsIdx i q 2).val = (i 3).val := by
  unfold DotDims.rhsIdx
  rw [dif_neg (show ¬(2 : Fin S20x16x300x2048.rank) ∈ dot_S20x2048x16x32_S20x16x300x2048_S20x16x32x300_1_3_3_2_02_01.rhsBatch by decide), dif_pos (show (2 : Fin S20x16x300x2048.rank) ∈ dot_S20x2048x16x32_S20x16x300x2048_S20x16x32x300_1_3_3_2_02_01.rhsNonContracting by decide)]
  rfl
theorem rhs_main_v46_3 (i : S20x16x32x300.Idx) (q : dot_S20x2048x16x32_S20x16x300x2048_S20x16x32x300_1_3_3_2_02_01.contr.Idx) :
    (dot_S20x2048x16x32_S20x16x300x2048_S20x16x32x300_1_3_3_2_02_01.rhsIdx i q 3).val = (q ⟨0, by decide⟩).val :=
  dot_S20x2048x16x32_S20x16x300x2048_S20x16x32x300_1_3_3_2_02_01.rhsIdx_val_of_single rfl i q
abbrev lidx_main_v46 (i : S20x16x32x300.Idx) (k : Fin 2048) : S20x2048x16x32.Idx := fun a => match a with
  | ⟨0, _⟩ => ⟨(i 0).val, (i 0).isLt⟩
  | ⟨1, _⟩ => ⟨k.val, k.isLt⟩
  | ⟨2, _⟩ => ⟨(i 1).val, (i 1).isLt⟩
  | ⟨3, _⟩ => ⟨(i 2).val, (i 2).isLt⟩
abbrev ridx_main_v46 (i : S20x16x32x300.Idx) (k : Fin 2048) : S20x16x300x2048.Idx := fun a => match a with
  | ⟨0, _⟩ => ⟨(i 0).val, (i 0).isLt⟩
  | ⟨1, _⟩ => ⟨(i 1).val, (i 1).isLt⟩
  | ⟨2, _⟩ => ⟨(i 3).val, (i 3).isLt⟩
  | ⟨3, _⟩ => ⟨k.val, k.isLt⟩
/-- Stated at `F := Ideal`, where the host's `dot_general` is this sum; at a bit-exact instance it is an opaque function of its operands. -/
theorem val_main_v46_apply (x0 : (⟨S20x300x16x32, .bf16⟩ : BufTy).Contents (Elt Ideal)) (x2 x4 : (⟨S20x2048x16, .f32⟩ : BufTy).Contents (Elt Ideal)) (x5 : (⟨S20x300x64, .i32⟩ : BufTy).Contents (Elt Ideal)) (r0 r1 : (⟨S20x2048x16x32, .bf16⟩ : BufTy).Contents (Elt Ideal)) (i : S20x16x32x300.Idx) :
    val_main_v46 (F := Ideal) x0 x2 x4 x5 r0 r1 i = ∑ k : Fin 2048, r1 (lidx_main_v46 i k) * (val_main_v45 (F := Ideal) x0 x2 x4 x5 r0) (ridx_main_v46 i k) := by
  unfold val_main_v46
  generalize val_main_v45 (F := Ideal) x0 x2 x4 x5 r0 = y0
  simp only [Host.dotGeneral]
  rw [Ideal.dotGeneral_apply, ← Equiv.sum_comp (ValueIdx.contrEquiv1 dot_S20x2048x16x32_S20x16x300x2048_S20x16x32x300_1_3_3_2_02_01 2048 rfl rfl).symm]
  refine Finset.sum_congr rfl fun k _ => ?_
  have hk := ValueIdx.contrEquiv1_symm_val dot_S20x2048x16x32_S20x16x300x2048_S20x16x32x300_1_3_3_2_02_01 2048 rfl rfl k
  have el : dot_S20x2048x16x32_S20x16x300x2048_S20x16x32x300_1_3_3_2_02_01.lhsIdx i ((ValueIdx.contrEquiv1 dot_S20x2048x16x32_S20x16x300x2048_S20x16x32x300_1_3_3_2_02_01 2048 rfl rfl).symm k) = lidx_main_v46 i k := funext fun a => Fin.ext (by
    match a with
    | ⟨0, _⟩ => exact lhs_main_v46_0 _ _
    | ⟨1, _⟩ => exact (lhs_main_v46_1 _ _).trans hk
    | ⟨2, _⟩ => exact lhs_main_v46_2 _ _
    | ⟨3, _⟩ => exact lhs_main_v46_3 _ _)
  have er : dot_S20x2048x16x32_S20x16x300x2048_S20x16x32x300_1_3_3_2_02_01.rhsIdx i ((ValueIdx.contrEquiv1 dot_S20x2048x16x32_S20x16x300x2048_S20x16x32x300_1_3_3_2_02_01 2048 rfl rfl).symm k) = ridx_main_v46 i k := funext fun a => Fin.ext (by
    match a with
    | ⟨0, _⟩ => exact rhs_main_v46_0 _ _
    | ⟨1, _⟩ => exact rhs_main_v46_1 _ _
    | ⟨2, _⟩ => exact rhs_main_v46_2 _ _
    | ⟨3, _⟩ => exact (rhs_main_v46_3 _ _).trans hk)
  rw [el, er]

-- %47 = stablehlo.transpose %46, dims = [0, 3, 1, 2] : (tensor<20x16x32x300xf32>) -> tensor<20x300x16x32xf32>
def val_main_v47 (x0 : (⟨S20x300x16x32, .bf16⟩ : BufTy).Contents (Elt F)) (x2 x4 : (⟨S20x2048x16, .f32⟩ : BufTy).Contents (Elt F)) (x5 : (⟨S20x300x64, .i32⟩ : BufTy).Contents (Elt F)) (r0 r1 : (⟨S20x2048x16x32, .bf16⟩ : BufTy).Contents (Elt F)) : (⟨S20x300x16x32, .f32⟩ : BufTy).Contents (Elt F) :=
  transpose S20x300x16x32 [0, 3, 1, 2] (val_main_v46 (F := F) x0 x2 x4 x5 r0 r1) transposes_S20x16x32x300_S20x300x16x32_0_3_1_2
abbrev idx_main_v47 (i : S20x300x16x32.Idx) : S20x16x32x300.Idx := fun a => match a with
  | ⟨0, _⟩ => ⟨(i 0).val, (i 0).isLt⟩
  | ⟨1, _⟩ => ⟨(i 2).val, (i 2).isLt⟩
  | ⟨2, _⟩ => ⟨(i 3).val, (i 3).isLt⟩
  | ⟨3, _⟩ => ⟨(i 1).val, (i 1).isLt⟩
theorem val_main_v47_apply (x0 : (⟨S20x300x16x32, .bf16⟩ : BufTy).Contents (Elt F)) (x2 x4 : (⟨S20x2048x16, .f32⟩ : BufTy).Contents (Elt F)) (x5 : (⟨S20x300x64, .i32⟩ : BufTy).Contents (Elt F)) (r0 r1 : (⟨S20x2048x16x32, .bf16⟩ : BufTy).Contents (Elt F)) (i : S20x300x16x32.Idx) :
    val_main_v47 (F := F) x0 x2 x4 x5 r0 r1 i = val_main_v46 (F := F) x0 x2 x4 x5 r0 r1 (idx_main_v47 i) := by
  unfold val_main_v47
  generalize val_main_v46 (F := F) x0 x2 x4 x5 r0 r1 = y
  exact transpose_apply [0, 3, 1, 2] y transposes_S20x16x32x300_S20x300x16x32_0_3_1_2 i (idx_main_v47 i) (fun b => match b with
    | ⟨0, _⟩ => rfl
    | ⟨1, _⟩ => rfl
    | ⟨2, _⟩ => rfl
    | ⟨3, _⟩ => rfl)

-- %48 = stablehlo.reshape %47 : (tensor<20x300x16x32xf32>) -> tensor<20x300x512xf32>
def val_main_v48 (x0 : (⟨S20x300x16x32, .bf16⟩ : BufTy).Contents (Elt F)) (x2 x4 : (⟨S20x2048x16, .f32⟩ : BufTy).Contents (Elt F)) (x5 : (⟨S20x300x64, .i32⟩ : BufTy).Contents (Elt F)) (r0 r1 : (⟨S20x2048x16x32, .bf16⟩ : BufTy).Contents (Elt F)) : (⟨S20x300x512, .f32⟩ : BufTy).Contents (Elt F) :=
  shapeCast _ (val_main_v47 (F := F) x0 x2 x4 x5 r0 r1) shapeCasts_S20x300x16x32_S20x300x512
set_option backward.proofsInPublic true in
abbrev idx_main_v48 (i : S20x300x512.Idx) : S20x300x16x32.Idx := fun a => match a with
  | ⟨0, _⟩ => ⟨(((i 0).val * 300 + (i 1).val) * 512 + (i 2).val) / 153600, by have h0 : (i 0).val < 20 := (i 0).isLt; have h1 : (i 1).val < 300 := (i 1).isLt; have h2 : (i 2).val < 512 := (i 2).isLt; show (((i 0).val * 300 + (i 1).val) * 512 + (i 2).val) / 153600 < 20; omega⟩
  | ⟨1, _⟩ => ⟨(((i 0).val * 300 + (i 1).val) * 512 + (i 2).val) / 512 % 300, by have h0 : (i 0).val < 20 := (i 0).isLt; have h1 : (i 1).val < 300 := (i 1).isLt; have h2 : (i 2).val < 512 := (i 2).isLt; show (((i 0).val * 300 + (i 1).val) * 512 + (i 2).val) / 512 % 300 < 300; omega⟩
  | ⟨2, _⟩ => ⟨(((i 0).val * 300 + (i 1).val) * 512 + (i 2).val) / 32 % 16, by have h0 : (i 0).val < 20 := (i 0).isLt; have h1 : (i 1).val < 300 := (i 1).isLt; have h2 : (i 2).val < 512 := (i 2).isLt; show (((i 0).val * 300 + (i 1).val) * 512 + (i 2).val) / 32 % 16 < 16; omega⟩
  | ⟨3, _⟩ => ⟨(((i 0).val * 300 + (i 1).val) * 512 + (i 2).val) % 32, by have h0 : (i 0).val < 20 := (i 0).isLt; have h1 : (i 1).val < 300 := (i 1).isLt; have h2 : (i 2).val < 512 := (i 2).isLt; show (((i 0).val * 300 + (i 1).val) * 512 + (i 2).val) % 32 < 32; omega⟩
theorem val_main_v48_apply (x0 : (⟨S20x300x16x32, .bf16⟩ : BufTy).Contents (Elt F)) (x2 x4 : (⟨S20x2048x16, .f32⟩ : BufTy).Contents (Elt F)) (x5 : (⟨S20x300x64, .i32⟩ : BufTy).Contents (Elt F)) (r0 r1 : (⟨S20x2048x16x32, .bf16⟩ : BufTy).Contents (Elt F)) (i : S20x300x512.Idx) :
    val_main_v48 (F := F) x0 x2 x4 x5 r0 r1 i = val_main_v47 (F := F) x0 x2 x4 x5 r0 r1 (idx_main_v48 i) := by
  unfold val_main_v48
  generalize val_main_v47 (F := F) x0 x2 x4 x5 r0 r1 = y
  exact shapeCast_apply y shapeCasts_S20x300x16x32_S20x300x512 i (idx_main_v48 i)
    (by rewrite [Shape.rowMajor_val_four, Shape.rowMajor_val_three]; have h0 : (i 0).val < 20 := (i 0).isLt; have h1 : (i 1).val < 300 := (i 1).isLt; have h2 : (i 2).val < 512 := (i 2).isLt; show (((((i 0).val * 300 + (i 1).val) * 512 + (i 2).val) / 153600 * 300 + (((i 0).val * 300 + (i 1).val) * 512 + (i 2).val) / 512 % 300) * 16 + (((i 0).val * 300 + (i 1).val) * 512 + (i 2).val) / 32 % 16) * 32 + (((i 0).val * 300 + (i 1).val) * 512 + (i 2).val) % 32 = ((i 0).val * 300 + (i 1).val) * 512 + (i 2).val; omega)

-- %49 = stablehlo.convert %48 : (tensor<20x300x512xf32>) -> tensor<20x300x512xbf16>
def val_main_v49 (x0 : (⟨S20x300x16x32, .bf16⟩ : BufTy).Contents (Elt F)) (x2 x4 : (⟨S20x2048x16, .f32⟩ : BufTy).Contents (Elt F)) (x5 : (⟨S20x300x64, .i32⟩ : BufTy).Contents (Elt F)) (r0 r1 : (⟨S20x2048x16x32, .bf16⟩ : BufTy).Contents (Elt F)) : (⟨S20x300x512, .bf16⟩ : BufTy).Contents (Elt F) :=
  truncf .bf16 (val_main_v48 (F := F) x0 x2 x4 x5 r0 r1) bitsLt_bf16_f32
theorem val_main_v49_apply (x0 : (⟨S20x300x16x32, .bf16⟩ : BufTy).Contents (Elt F)) (x2 x4 : (⟨S20x2048x16, .f32⟩ : BufTy).Contents (Elt F)) (x5 : (⟨S20x300x64, .i32⟩ : BufTy).Contents (Elt F)) (r0 r1 : (⟨S20x2048x16x32, .bf16⟩ : BufTy).Contents (Elt F)) (i : S20x300x512.Idx) :
    val_main_v49 (F := F) x0 x2 x4 x5 r0 r1 i = FloatOps.truncf .bf16 bitsLt_bf16_f32 (val_main_v48 (F := F) x0 x2 x4 x5 r0 r1 i) := rfl

end Cert.ReferenceIdeal.Ops

end
-- ==== Proof.RefRun.lean ====
/- The reference's run: every execution ends with the result at `result` and the arguments as they were. -/
module

public import proofs.«01_k».proof.Proof.Gen.ReferenceIdeal
public import proofs.«01_k».proof.Proof.RefOps
public import Idealize.ShloMosaic.Lib.StableHlo.Run
public import Idealize.ShloMosaic.Lib.Pipeline.FrameSuffix

@[expose] public section

noncomputable section

namespace Cert.ReferenceIdeal.Ref

open Cert.ReferenceIdeal Cert.ReferenceIdeal.Gen Idealize.ShloMosaic Idealize.ShloMosaic.TcCoe Idealize.SL.Sem Idealize.ShloMosaic.StableHlo

variable {F : FTy → Type} [FloatOps F]

variable (m : (ℓ : Loc nD τ sig) → Buf (Elt F) ℓ)

/-- Core `c`'s TensorCore buffer contents when the region is left: the arrays of its pipeline at what the proof data give
    after the last point, every other buffer as the region found it. -/
abbrev exitV (c : Dev nD) : Valuation τ sig (Elt F) :=
  Pipeline.withArrays spec0 c (Gen.V0 m c) fun w => (Gen.dats m 0 c).arrAt w cfg0.N

/-- What the kernel region leaves in its result array `main_v1_0` (window 2's): not opened here. -/
def reg_main_v1_0 (c : Dev nD) : Buf (Elt F) ((c.tc : Thread nD τ).loc main_v1_0) := (Gen.dats m 0 c).arrAt 2 cfg0.N
/-- What the kernel region leaves in its result array `main_v1_1` (window 3's): not opened here. -/
def reg_main_v1_1 (c : Dev nD) : Buf (Elt F) ((c.tc : Thread nD τ).loc main_v1_1) := (Gen.dats m 0 c).arrAt 3 cfg0.N

/-- The exit contents at argument `main_arg0`: as launched. -/
theorem exit_main_arg0 (c : Dev nD) : exitV m c (Proc.devRef .tc main_arg0) = m ((c.tc : Thread nD τ).loc main_arg0) :=
  (Pipeline.withArrays_of_ne _ c (Gen.V0 m c) _ main_arg0 (by exact (by decide : ∀ w, Pipeline.arrRef spec0 w ≠ main_arg0))).trans (Gen.V_main_arg0 m c)
/-- The exit contents at argument `main_arg2`: as launched. -/
theorem exit_main_arg2 (c : Dev nD) : exitV m c (Proc.devRef .tc main_arg2) = m ((c.tc : Thread nD τ).loc main_arg2) :=
  (Pipeline.withArrays_of_ne _ c (Gen.V0 m c) _ main_arg2 (by exact (by decide : ∀ w, Pipeline.arrRef spec0 w ≠ main_arg2))).trans (Gen.V_main_arg2 m c)
/-- The exit contents at argument `main_arg4`: as launched. -/
theorem exit_main_arg4 (c : Dev nD) : exitV m c (Proc.devRef .tc main_arg4) = m ((c.tc : Thread nD τ).loc main_arg4) :=
  (Pipeline.withArrays_of_ne _ c (Gen.V0 m c) _ main_arg4 (by exact (by decide : ∀ w, Pipeline.arrRef spec0 w ≠ main_arg4))).trans (Gen.V_main_arg4 m c)
/-- The exit contents at argument `main_arg5`: as launched. -/
theorem exit_main_arg5 (c : Dev nD) : exitV m c (Proc.devRef .tc main_arg5) = m ((c.tc : Thread nD τ).loc main_arg5) :=
  (Pipeline.withArrays_of_ne _ c (Gen.V0 m c) _ main_arg5 (by exact (by decide : ∀ w, Pipeline.arrRef spec0 w ≠ main_arg5))).trans (Gen.V_main_arg5 m c)
/-- The exit contents at the region's result array `main_v1_0`. -/
theorem exit_main_v1_0 (c : Dev nD) : exitV m c (Proc.devRef .tc main_v1_0) = reg_main_v1_0 m c :=
  Pipeline.withArrays_arr spec0 Gen.launch0.win.arr_inj c (Gen.V0 m c) _ 2
/-- The exit contents at the region's result array `main_v1_1`. -/
theorem exit_main_v1_1 (c : Dev nD) : exitV m c (Proc.devRef .tc main_v1_1) = reg_main_v1_1 m c :=
  Pipeline.withArrays_arr spec0 Gen.launch0.win.arr_inj c (Gen.V0 m c) _ 3

/-- The reference's result as a function of the arguments and of what its kernel region leaves. -/
def result (c : Dev nD) : Buf (Elt F) ((c.tc : Thread nD τ).loc main_v49) :=
  Ops.val_main_v49 (F := F) (m ((c.tc : Thread nD τ).loc main_arg0)) (m ((c.tc : Thread nD τ).loc main_arg2)) (m ((c.tc : Thread nD τ).loc main_arg4)) (m ((c.tc : Thread nD τ).loc main_arg5)) (reg_main_v1_0 m c) (reg_main_v1_1 m c)

set_option maxRecDepth 8192 in
set_option maxHeartbeats 2000000 in
/-- The operations after the region, from any contents `V0`, leave the chain of `Ops` in the result's buffer. -/
theorem tail_main_v49 (V0 : Valuation τ sig (Elt F)) :
    after (List.flatten [Gen.hostOps1, Gen.hostOps1_1, Gen.hostOps1_2]) V0 (Proc.devRef .tc main_v49)
      = Ops.val_main_v49 (F := F) (V0 (Proc.devRef .tc main_arg0)) (V0 (Proc.devRef .tc main_arg2)) (V0 (Proc.devRef .tc main_arg4)) (V0 (Proc.devRef .tc main_arg5)) (V0 (Proc.devRef .tc main_v1_0)) (V0 (Proc.devRef .tc main_v1_1)) := by
  simp only [Gen.hostOps1, Gen.hostOps1_1, Gen.hostOps1_2, TRef.ternary, TRef.unary, TRef.toBuf, TRef.ofBuf, cast_eq, List.flatten_cons, List.flatten_nil, List.append_nil, List.cons_append, List.nil_append]
  after_results_simp <;> rfl

/-- The operations after the region, from the contents in which the region is left, leave `result`. -/
theorem fin_main_v49 (c : Dev nD) :
    Pipeline.afterTail₀ cfgs (Gen.dats m) 0 (Gen.V0 m) [Gen.hostOps1, Gen.hostOps1_1, Gen.hostOps1_2] c main_v49 = result m c := by
  unfold result
  exact (tail_main_v49 (exitV m c)).trans (by rw [exit_main_arg0, exit_main_arg2, exit_main_arg4, exit_main_arg5, exit_main_v1_0, exit_main_v1_1])

/-- On every device, for any float values, from any memory with zero counters: every weakly fair execution of
    @main terminates with each result at the later operations' composed term of the arguments and the region's
    outputs, and the arguments unchanged. -/
theorem run (ρ : Dev nD → PrngReg) :
    θ_run defs (onTc (τ := τ) (main (F := F))) ⟨m, fun _ => 0, ρ⟩ fun r => ∀ c : Dev nD,
      r.2.mem ((c.tc : Thread nD τ).loc main_v49) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c => ⟨((h c).2 main_v49 (Pipeline.mem_restRefs_of main_v49 (by decide) (by decide))).trans (fin_main_v49 m c),
      ((h c).2 main_arg0 (Pipeline.mem_restRefs_of main_arg0 (by decide) (by decide))).trans (Gen.W_main_arg0 m (Gen.dats m) c),
      ((h c).2 main_arg1 (Pipeline.mem_restRefs_of main_arg1 (by decide) (by decide))).trans (Gen.W_main_arg1 m (Gen.dats m) c),
      ((h c).2 main_arg2 (Pipeline.mem_restRefs_of main_arg2 (by decide) (by decide))).trans (Gen.W_main_arg2 m (Gen.dats m) c),
      ((h c).1 1).trans (((Gen.dats m 0 c).arrAt_in 1 rfl _).trans ((Gen.A_eq m c 1).trans (Gen.V_main_arg3 m c))),
      ((h c).2 main_arg4 (Pipeline.mem_restRefs_of main_arg4 (by decide) (by decide))).trans (Gen.W_main_arg4 m (Gen.dats m) c),
      ((h c).2 main_arg5 (Pipeline.mem_restRefs_of main_arg5 (by decide) (by decide))).trans (Gen.W_main_arg5 m (Gen.dats m) c)⟩) (Gen.run_main m ρ)

end Cert.ReferenceIdeal.Ref

end
-- ==== Proof.RefValue.lean ====
module

public import proofs.«01_k».proof.Proof.KernelArray
public import proofs.«01_k».proof.Proof.RefRun

/-!
# What the reference computes

The reference's chain of operations read at one entry: which positions a query may attend (`allowed_apply`), the
masked scores (`score_apply`), the softmax weights (`weight_apply`) and the weighted sum of the values
(`result_apply`).
-/

@[expose] public section

noncomputable section

namespace Cert.ReferenceIdeal.Entry

open Cert.ReferenceIdeal Cert.ReferenceIdeal.Ops Cert.Attention
open Idealize.ShloMosaic Idealize.ShloMosaic.ValueIdx Idealize.ShloMosaic.TcCoe

/-! ## The mask -/

theorem and_eq_one : ∀ x y : BitVec 1, IntOp.andi x y = 1#1 ↔ x = 1#1 ∧ y = 1#1 := by decide
theorem or_eq_one : ∀ x y : BitVec 1, IntOp.ori x y = 1#1 ↔ x = 1#1 ∨ y = 1#1 := by decide

/-- The conjunction of a family of bits is one exactly when every bit is. -/
theorem fold_and {ι : Type} [DecidableEq ι] (s : Finset ι) (f : ι → BitVec 1) :
    s.fold IntOp.andi 1#1 f = 1#1 ↔ ∀ i ∈ s, f i = 1#1 := by
  induction s using Finset.induction_on with
  | empty => simp
  | insert a s ha ih => rw [Finset.fold_insert ha, and_eq_one, ih]; simp

theorem cmp_ne (x y : BitVec 32) : IntOp.cmpi .ne x y = 1#1 ↔ x ≠ y := by
  show BitVec.ofBool (x != y) = 1#1 ↔ _
  by_cases h : x = y
  · subst h; simp
  · rw [bne_iff_ne.2 h]; simp [h]

theorem cmp_eq (x y : BitVec 32) : IntOp.cmpi .eq x y = 1#1 ↔ x = y := by
  show BitVec.ofBool (x == y) = 1#1 ↔ _
  by_cases h : x = y
  · subst h; simp
  · rw [beq_false_of_ne h]; simp [h]

variable (x5 : S20x300x64.Idx → BitVec 32)

/-- Bit `p % 32` of word `p / 32` of a query's mask. -/
theorem bit_apply (b : Fin 20) (n : Fin 300) (p : Fin 2048) :
    val_main_v14 (F := Ideal) x5 (ix3 b n p) = 1#1
      ↔ (x5 (ix3 b n ⟨p.val / 32, by omega⟩)).getLsbD (p.val % 32) = true := by
  have hb := b.isLt
  have hn := n.isLt
  have hp := p.isLt
  have e : idx_main_v14 (ix3 b n p) = ix4 b n ⟨p.val / 32, by omega⟩ ⟨p.val % 32, by omega⟩ := by
    funext a
    match a with
    | ⟨0, _⟩ => exact Fin.ext (by show ((b.val * 300 + n.val) * 2048 + p.val) / 614400 = b.val; omega)
    | ⟨1, _⟩ => exact Fin.ext (by show ((b.val * 300 + n.val) * 2048 + p.val) / 2048 % 300 = n.val; omega)
    | ⟨2, _⟩ => exact Fin.ext (by show ((b.val * 300 + n.val) * 2048 + p.val) / 32 % 64 = p.val / 32; omega)
    | ⟨3, _⟩ => exact Fin.ext (by show ((b.val * 300 + n.val) * 2048 + p.val) % 32 = p.val % 32; omega)
  rw [val_main_v14_apply, e, val_main_v13_apply, val_main_v12_apply, val_main_v11_apply, val_main_c_0_apply, cmp_ne,
    val_main_v10_apply, val_main_v9_apply, val_main_c_apply, val_main_v8_apply, val_main_v7_apply, val_main_v5_apply, val_main_v3_apply,
    val_main_v6_apply, val_main_v4_apply, val_main_v2_apply]
  have e6 : idx_main_v4 (idx_main_v6 (ix4 b n (⟨p.val / 32, by omega⟩ : Fin 64) (⟨p.val % 32, by omega⟩ : Fin 32))) = ix3 b n (⟨p.val / 32, by omega⟩ : Fin 64) := by
    funext a
    match a with
    | ⟨0, _⟩ => rfl
    | ⟨1, _⟩ => rfl
    | ⟨2, _⟩ => rfl
  rw [e6]
  have hs : (BitVec.ofNat 32 (idx_main_v5 (idx_main_v7 (ix4 b n (⟨p.val / 32, by omega⟩ : Fin 64) (⟨p.val % 32, by omega⟩ : Fin 32))) 0).val) = BitVec.ofNat 32 (p.val % 32) := rfl
  rw [hs]
  unfold IntOp.shrui
  rw [if_pos (by rw [BitVec.toNat_ofNat]; omega)]
  exact shift_and_one_ne_zero _ _ (by omega)

/-- A query's mask is empty when each of its words is zero. -/
theorem empty_apply (b : Fin 20) (n : Fin 300) :
    val_main_v17 (F := Ideal) x5 (ix2 b n) = 1#1 ↔ ∀ w : Fin 64, x5 (ix3 b n w) = 0#32 := by
  have hR : S20x300x64.Reduces [2] S20x300 := by decide
  unfold val_main_v17
  rw [Host.reduce_eq_fold_single _ _ _ _ hR]
  have key : ∀ w : Fin 64, (val_main_v16 (F := Ideal) x5 ∘ hR.lift (ix2 b n)) w = val_main_v16 (F := Ideal) x5 (ix3 b n w) := fun w =>
    congrArg (val_main_v16 (F := Ideal) x5) (funext fun a => match a with | ⟨0, _⟩ => rfl | ⟨1, _⟩ => rfl | ⟨2, _⟩ => rfl)
  exact (fold_and _ _).trans ⟨fun h w => (cmp_eq _ _).1 ((key w).symm.trans (h w (Finset.mem_univ _))),
    fun h w _ => (key w).trans ((cmp_eq _ _).2 (h w))⟩

/-- A query attends a position exactly when the position is allowed. -/
theorem allowed_apply (b : Fin 20) (n : Fin 300) (p : Fin 2048) :
    val_main_v20 (F := Ideal) x5 (ix3 b n p) = 1#1 ↔ allowed (fun i => x5 (ix3 b n i)) p := by
  have e : idx_main_v18 (idx_main_v19 (ix3 b n p)) = ix2 b n := by
    funext a
    match a with
    | ⟨0, _⟩ => rfl
    | ⟨1, _⟩ => rfl
  rw [val_main_v20_apply, or_eq_one, bit_apply, val_main_v19_apply, val_main_v18_apply, e, empty_apply]
  exact or_comm

/-! ## The scores -/

variable (x0 : S20x300x16x32.Idx → EReal) (x2 x4 : S20x2048x16.Idx → EReal) (r0 r1 : S20x2048x16x32.Idx → EReal)

/-- The reference's masked score of image `b`, head `h`, query `n` at position `p`. -/
def score (b : Fin 20) (h : Fin 16) (n : Fin 300) (p : Fin 2048) : EReal :=
  if allowed (fun i => x5 (ix3 b n i)) p then
    (∑ d : Fin 32, x0 (ix4 b n h d) * r0 (ix4 b p h d)) * (x2 (ix3 b p h) * Ideal.ofBits .f32 0x3E3504F3#32)
  else ⊥

theorem score_apply (b : Fin 20) (h : Fin 16) (n : Fin 300) (p : Fin 2048) :
    val_main_v29 (F := Ideal) x0 x2 x5 r0 (ix4 b h n p) = score x5 x0 x2 r0 b h n p := by
  have e26 : idx_main_v26 (idx_main_call0_v1 (ix4 b h n p)) = ix3 b n p := by
    funext a
    match a with
    | ⟨0, _⟩ => rfl
    | ⟨1, _⟩ => rfl
    | ⟨2, _⟩ => rfl
  have e22 : idx_main_v22 (idx_main_v25 (idx_main_v27 (ix4 b h n p))) = ix3 b p h := by
    funext a
    match a with
    | ⟨0, _⟩ => rfl
    | ⟨1, _⟩ => rfl
    | ⟨2, _⟩ => rfl
  have el : ∀ d : Fin 32, lidx_main_v21 (ix4 b h n p) d = ix4 b n h d := fun d => by
    funext a
    match a with
    | ⟨0, _⟩ => rfl
    | ⟨1, _⟩ => rfl
    | ⟨2, _⟩ => rfl
    | ⟨3, _⟩ => rfl
  have er : ∀ d : Fin 32, ridx_main_v21 (ix4 b h n p) d = ix4 b p h d := fun d => by
    funext a
    match a with
    | ⟨0, _⟩ => rfl
    | ⟨1, _⟩ => rfl
    | ⟨2, _⟩ => rfl
    | ⟨3, _⟩ => rfl
  rw [val_main_v29_apply, val_main_call0_v1_apply, val_main_v26_apply, e26, val_main_call0_v2_apply, val_main_call0_v0_apply, val_main_cst_3_apply,
    val_main_v28_apply, val_main_v21_apply, val_main_v27_apply, val_main_v25_apply, val_main_v24_apply, val_main_v22_apply, e22, val_main_v23_apply,
    val_main_cst_apply]
  simp only [el, er]
  unfold Scalar.select score
  refine if_congr (allowed_apply x5 b n p) rfl ?_
  exact KernelIdeal.Head.ofBits_neg_inf

/-- The largest masked score of a query, started at `-∞`. -/
theorem max_apply (b : Fin 20) (h : Fin 16) (n : Fin 300) :
    val_main_v32 (F := Ideal) x0 x2 x5 r0 (ix3 b h n) = Finset.univ.fold max ⊥ (score x5 x0 x2 r0 b h n) := by
  have hR : S20x16x300x2048.Reduces [3] S20x16x300 := by decide
  have e30 : val_main_v30 (F := Ideal) x0 x2 x5 r0 (ix3 b h n) = Finset.univ.fold max ⊥ (score x5 x0 x2 r0 b h n) := by
    unfold val_main_v30
    rw [Host.reduce_eq_fold_single _ _ _ _ hR]
    show Finset.fold max (Ideal.ofBits .f32 0xFF800000#32) _ _ = _
    rw [KernelIdeal.Head.ofBits_neg_inf]
    refine congrArg (fun f => Finset.univ.fold max ⊥ f) (funext fun p => ?_)
    refine (congrArg (val_main_v29 (F := Ideal) x0 x2 x5 r0) ?_).trans (score_apply x5 x0 x2 r0 b h n p)
    funext a
    match a with
    | ⟨0, _⟩ => rfl
    | ⟨1, _⟩ => rfl
    | ⟨2, _⟩ => rfl
    | ⟨3, _⟩ => rfl
  rw [val_main_v32_apply, e30, val_main_v31_apply, val_main_cst_5_apply]
  show max (Ideal.ofBits .f32 0xFF800000#32) _ = _
  rw [KernelIdeal.Head.ofBits_neg_inf, max_eq_right bot_le]

/-- The exponential of a masked score less the largest. -/
theorem exp_apply (b : Fin 20) (h : Fin 16) (n : Fin 300) (p : Fin 2048) :
    val_main_v36 (F := Ideal) x0 x2 x5 r0 (ix4 b h n p)
      = Ideal.exp (score x5 x0 x2 r0 b h n p - Finset.univ.fold max ⊥ (score x5 x0 x2 r0 b h n)) := by
  have e : idx_main_v33 (idx_main_v34 (ix4 b h n p)) = ix3 b h n := by
    funext a
    match a with
    | ⟨0, _⟩ => rfl
    | ⟨1, _⟩ => rfl
    | ⟨2, _⟩ => rfl
  rw [val_main_v36_apply, val_main_v35_apply, val_main_v34_apply, val_main_v33_apply, e, max_apply, score_apply]
  rfl

/-- A softmax weight. -/
theorem weight_apply (b : Fin 20) (h : Fin 16) (n : Fin 300) (p : Fin 2048) :
    val_main_v40 (F := Ideal) x0 x2 x5 r0 (ix4 b h n p)
      = Ideal.div (Ideal.exp (score x5 x0 x2 r0 b h n p - Finset.univ.fold max ⊥ (score x5 x0 x2 r0 b h n)))
          (∑ p, Ideal.exp (score x5 x0 x2 r0 b h n p - Finset.univ.fold max ⊥ (score x5 x0 x2 r0 b h n))) := by
  have e : idx_main_v38 (idx_main_v39 (ix4 b h n p)) = ix3 b h n := by
    funext a
    match a with
    | ⟨0, _⟩ => rfl
    | ⟨1, _⟩ => rfl
    | ⟨2, _⟩ => rfl
  have e37 : ∀ k : Fin 2048, idx_main_v37 (ix3 b h n) k = ix4 b h n k := fun k => by
    funext a
    match a with
    | ⟨0, _⟩ => rfl
    | ⟨1, _⟩ => rfl
    | ⟨2, _⟩ => rfl
    | ⟨3, _⟩ => rfl
  rw [val_main_v40_apply, exp_apply, val_main_v39_apply, val_main_v38_apply, e, val_main_v37_apply, val_main_cst_6_apply]
  simp only [e37, exp_apply]
  have z : (FloatOps.ofBits .f32 0x00000000#32 : Ideal .f32) = (0 : EReal) := by
    show Ideal.ofBits .f32 0x00000000#32 = 0
    simp [Ideal.ofBits, Ideal.ieee]
  rw [z]
  refine congrArg (Ideal.div _) ?_
  exact zero_add _

/-- The reference's result at image `b`, query `n` and column `32 h + d`. -/
theorem result_apply (b : Fin 20) (n : Fin 300) (h : Fin 16) (d : Fin 32) :
    val_main_v49 (F := Ideal) x0 x2 x4 x5 r0 r1 (ix3 b n (KernelIdeal.Inputs.col h d))
      = ∑ p : Fin 2048, r1 (ix4 b p h d)
          * (Ideal.div (Ideal.exp (score x5 x0 x2 r0 b h n p - Finset.univ.fold max ⊥ (score x5 x0 x2 r0 b h n)))
              (∑ p, Ideal.exp (score x5 x0 x2 r0 b h n p - Finset.univ.fold max ⊥ (score x5 x0 x2 r0 b h n)))
            * x4 (ix3 b p h)) := by
  have hb := b.isLt
  have hn := n.isLt
  have hh := h.isLt
  have hd := d.isLt
  have e48 : idx_main_v48 (ix3 b n (KernelIdeal.Inputs.col h d)) = ix4 b n h d := by
    funext a
    match a with
    | ⟨0, _⟩ => exact Fin.ext (by show ((b.val * 300 + n.val) * 512 + (32 * h.val + d.val)) / 153600 = b.val; omega)
    | ⟨1, _⟩ => exact Fin.ext (by show ((b.val * 300 + n.val) * 512 + (32 * h.val + d.val)) / 512 % 300 = n.val; omega)
    | ⟨2, _⟩ => exact Fin.ext (by show ((b.val * 300 + n.val) * 512 + (32 * h.val + d.val)) / 32 % 16 = h.val; omega)
    | ⟨3, _⟩ => exact Fin.ext (by show ((b.val * 300 + n.val) * 512 + (32 * h.val + d.val)) % 32 = d.val; omega)
  have e47 : idx_main_v47 (ix4 b n h d) = ix4 b h d n := by
    funext a
    match a with
    | ⟨0, _⟩ => rfl
    | ⟨1, _⟩ => rfl
    | ⟨2, _⟩ => rfl
    | ⟨3, _⟩ => rfl
  have el : ∀ p : Fin 2048, lidx_main_v46 (ix4 b h d n) p = ix4 b p h d := fun p => by
    funext a
    match a with
    | ⟨0, _⟩ => rfl
    | ⟨1, _⟩ => rfl
    | ⟨2, _⟩ => rfl
    | ⟨3, _⟩ => rfl
  have er : ∀ p : Fin 2048, ridx_main_v46 (ix4 b h d n) p = ix4 b h n p := fun p => by
    funext a
    match a with
    | ⟨0, _⟩ => rfl
    | ⟨1, _⟩ => rfl
    | ⟨2, _⟩ => rfl
    | ⟨3, _⟩ => rfl
  have e41 : ∀ p : Fin 2048, idx_main_v41 (idx_main_v42 (idx_main_v43 (ix4 b h n p))) = ix3 b p h := fun p => by
    funext a
    match a with
    | ⟨0, _⟩ => rfl
    | ⟨1, _⟩ => rfl
    | ⟨2, _⟩ => rfl
  have e : val_main_v49 (F := Ideal) x0 x2 x4 x5 r0 r1 (ix3 b n (KernelIdeal.Inputs.col h d))
      = val_main_v48 (F := Ideal) x0 x2 x4 x5 r0 r1 (ix3 b n (KernelIdeal.Inputs.col h d)) := rfl
  rw [e, val_main_v48_apply, e48, val_main_v47_apply, e47, val_main_v46_apply]
  refine Finset.sum_congr rfl fun p _ => ?_
  rw [el, er]
  refine congrArg (r1 (ix4 b p h d) * ·) ?_
  have e45 : val_main_v45 (F := Ideal) x0 x2 x4 x5 r0 (ix4 b h n p) = val_main_v44 (F := Ideal) x0 x2 x4 x5 r0 (ix4 b h n p) := rfl
  rw [e45, val_main_v44_apply, weight_apply, val_main_v43_apply, val_main_v42_apply, val_main_v41_apply, e41]
  rfl

end Cert.ReferenceIdeal.Entry

end
-- ==== Proof.RefRegion.lean ====
/- What the reference's kernel region leaves: the key and the value codes, widened.

   The region has one point, and each of its windows is its whole array, so each result array ends at what that
   one point writes. On extended reals widening a code changes nothing. -/
module

public import proofs.«01_k».proof.Proof.RefValue
public import Idealize.ShloMosaic.Lib.Pipeline.ValueKit.Basic

@[expose] public section

noncomputable section

namespace Cert.ReferenceIdeal.Region

open Cert.ReferenceIdeal Cert.ReferenceIdeal.Gen Idealize.ShloMosaic Idealize.ShloMosaic.TcCoe Idealize.SL.Sem
open Idealize.ShloMosaic.StableHlo Idealize.ShloMosaic.Pipeline

variable (m : (ℓ : Loc nD τ sig) → Buf (Elt Ideal) ℓ)

/-- The key codes the region reads: the bytes' bit patterns. -/
theorem entry_keys (c : Dev nD) :
    (V m c main_v0 : S20x2048x16x32.Idx → EReal)
      = bitcastToFloat (F := Ideal) .fp8e4m3 (m (c.tc.loc main_arg1) : S20x2048x16x32.Idx → BitVec 8) := by
  show StableHlo.after hostOps0 (fun b => m (c, b)) (Proc.devRef .tc main_v0) = _
  after_results

/-- The first result of the body is its first operand. -/
theorem out0_2_eq (x0 x1 : Vec Ideal S20x2048x16x32 .fp8e4m3) (y : S20x2048x16x32.Idx) :
    (out0_2 (F := Ideal) x0 x1 y : EReal) = x0 y := by
  unfold out0_2
  rw [View.canon_cons_unit_lit _ _ _ (by decide), View.ld_unit_lit _ _ (by decide)]
  unfold k0_pay1
  rw [Idealize.ShloMosaic.shapeCast_self]
  rfl

/-- The second result of the body is its second operand. -/
theorem out0_3_eq (x0 x1 : Vec Ideal S20x2048x16x32 .fp8e4m3) (y : S20x2048x16x32.Idx) :
    (out0_3 (F := Ideal) x0 x1 y : EReal) = x1 y := by
  unfold out0_3
  rw [View.canon_cons_unit_lit _ _ _ (by decide), View.ld_unit_lit _ _ (by decide)]
  rfl

/-- The first operand's block is its whole array. -/
theorem iblk_0 (c : Dev nD) (t : Fin cfg0.N) : (iblk m c 0 t : Vec Ideal S20x2048x16x32 .fp8e4m3) = V m c main_v0 := by
  have hz : (fun a => win0_0.index t a * main_v0.ty.shape.size a) = fun _ => 0 := funext fun a => Nat.zero_mul _
  exact Memref.read_access_unit_zero (Elt Ideal) main_v0 hz (fun a => by rw [congrFun hz a]; simp) (V m c main_v0)

/-- The second operand's block is its whole array. -/
theorem iblk_1 (c : Dev nD) (t : Fin cfg0.N) : (iblk m c 1 t : Vec Ideal S20x2048x16x32 .fp8e4m3) = V m c main_arg3 := by
  have hz : (fun a => win0_1.index t a * main_arg3.ty.shape.size a) = fun _ => 0 := funext fun a => Nat.zero_mul _
  exact Memref.read_access_unit_zero (Elt Ideal) main_arg3 hz (fun a => by rw [congrFun hz a]; simp) (V m c main_arg3)

/-- The widened key codes, as the first result array ends. -/
def keys (c : Dev nD) : S20x2048x16x32.Idx → EReal :=
  bitcastToFloat (F := Ideal) .fp8e4m3 (m (c.tc.loc main_arg1) : S20x2048x16x32.Idx → BitVec 8)

/-- The widened value codes, as the second result array ends. -/
def values (c : Dev nD) : S20x2048x16x32.Idx → EReal := m (c.tc.loc main_arg3)

/-- What the region's point writes back of its first result. -/
theorem flushed_2 (c : Dev nD) (t : Fin cfg0.N) :
    (dats m 0 c).flushed 2 t = ((cfg0.win 2).blk t).view.read (Elt Ideal) (keys m c) := by
  show (cfg0.win 2).cut (grid0.coords t) ((dats m 0 c).after 2 t) = _
  have hz : (fun a => win0_2.index t a * main_v1_0.ty.shape.size a) = fun _ => 0 := funext fun a => Nat.zero_mul _
  have e : (out0_2 (iblk m c 0 t) (iblk m c 1 t) : S20x2048x16x32.Idx → EReal) = keys m c := by
    funext y
    rw [out0_2_eq, iblk_0]
    exact congrFun (entry_keys m c) y
  rw [after0_2]
  exact (show _ = keys m c from e).trans
    (Memref.read_access_unit_zero (Elt Ideal) main_v1_0 hz (fun a => by rw [congrFun hz a]; simp) (keys m c)).symm

/-- What the region's point writes back of its second result. -/
theorem flushed_3 (c : Dev nD) (t : Fin cfg0.N) :
    (dats m 0 c).flushed 3 t = ((cfg0.win 3).blk t).view.read (Elt Ideal) (values m c) := by
  show (cfg0.win 3).cut (grid0.coords t) ((dats m 0 c).after 3 t) = _
  have hz : (fun a => win0_3.index t a * main_v1_1.ty.shape.size a) = fun _ => 0 := funext fun a => Nat.zero_mul _
  have e : (out0_3 (iblk m c 0 t) (iblk m c 1 t) : S20x2048x16x32.Idx → EReal) = values m c := by
    funext y
    rw [out0_3_eq, iblk_1]
    exact congrFun (V_main_arg3 m c) y
  rw [after0_3]
  exact (show _ = values m c from e).trans
    (Memref.read_access_unit_zero (Elt Ideal) main_v1_1 hz (fun a => by rw [congrFun hz a]; simp) (values m c)).symm

/-- The region's one point. -/
def point : Fin cfg0.N := ⟨0, by decide⟩

/-- The first result array ends at the key codes. -/
theorem keys_left (c : Dev nD) : (Ref.reg_main_v1_0 m c : S20x2048x16x32.Idx → EReal) = keys m c :=
  (dats m 0 c).arrAt_eq_of_cover 2 (keys m c) (fun t _ => flushed_2 m c t) fun i => ⟨point, flush0_2 point, by
    show i ∈ ((View.whole main_v1_0).slice (win0_2.rect point)).set
    have hz : (fun a => win0_2.index point a * main_v1_0.ty.shape.size a) = fun _ => 0 := funext fun a => Nat.zero_mul _
    rw [View.set_slice_whole]
    exact View.mem_set_unit_zero hz (fun a => by rw [congrFun hz a]; simp) i⟩

/-- The second result array ends at the value codes. -/
theorem values_left (c : Dev nD) : (Ref.reg_main_v1_1 m c : S20x2048x16x32.Idx → EReal) = values m c :=
  (dats m 0 c).arrAt_eq_of_cover 3 (values m c) (fun t _ => flushed_3 m c t) fun i => ⟨point, flush0_3 point, by
    show i ∈ ((View.whole main_v1_1).slice (win0_3.rect point)).set
    have hz : (fun a => win0_3.index point a * main_v1_1.ty.shape.size a) = fun _ => 0 := funext fun a => Nat.zero_mul _
    rw [View.set_slice_whole]
    exact View.mem_set_unit_zero hz (fun a => by rw [congrFun hz a]; simp) i⟩

end Cert.ReferenceIdeal.Region
-- ==== Proof.Precondition.lean ====
/- What the precondition says: the queries, the key codes and the key scales are real numbers.

   The precondition is three arrays of bits, one per array it bounds. A query or a key scale satisfies it when its
   absolute value is below infinity. A key code is given as its byte, and satisfies it when the seven low bits are not
   all ones, which is how the format writes its one value that is no number. -/
module

public import proofs.«01_k».proof.Proof.RefRegion
public import proofs.«01_k».proof.Proof.Gen.Pre_finite_keys
public import proofs.«01_k».proof.Defs

@[expose] public section

noncomputable section

namespace Cert.FiniteKeys

open Idealize.ShloMosaic Idealize.ShloMosaic.TcCoe

/-- An extended real whose absolute value is below infinity is a real. -/
theorem real_of_abs_lt_top (x : EReal) (h : max x (-x) < ⊤) : ∃ r : ℝ, x = (r : EReal) := by
  induction x with
  | bot => simp at h
  | top => simp at h
  | coe r => exact ⟨r, rfl⟩

/-- The one byte pattern that is no number, up to its sign: the seven low bits are ones. -/
theorem low_bits_of_nan : ∀ b : BitVec 8, (b.extractLsb' 3 4).toNat = 15 ∧ (b.extractLsb' 0 3).toNat = 7 →
    b.signExtend 32 &&& 127#32 = 127#32 := by
  decide +kernel

/-- A byte whose seven low bits are not all ones denotes a real. -/
theorem real_of_low_bits (b : BitVec 8) (h : b.signExtend 32 &&& 127#32 ≠ 127#32) :
    ∃ r : ℝ, (Ideal.ofBits .fp8e4m3 b : EReal) = (r : EReal) := by
  have hn : ¬((b.extractLsb' 3 4).toNat = 15 ∧ (b.extractLsb' 0 3).toNat = 7) := fun e => h (low_bits_of_nan b e)
  show ∃ r : ℝ, Ideal.e4m3fn b = (r : EReal)
  unfold Ideal.e4m3fn
  dsimp only
  rw [if_neg hn]
  split
  · exact ⟨_, rfl⟩
  · exact ⟨_, rfl⟩

/-- A comparison bit that is one says the comparison holds. -/
theorem of_ofBool {p : Prop} [Decidable p] (h : BitVec.ofBool (decide p) = 1#1) : p := by
  by_contra hp
  rw [decide_eq_false hp] at h
  exact absurd h (by decide)

theorem inf_f32 : Ideal.ofBits .f32 0x7F800000#32 = ⊤ := by simp [Ideal.ofBits, Ideal.ieee]
theorem inf_bf16 : Ideal.ofBits .bf16 0x7F80#16 = ⊤ := by simp [Ideal.ofBits, Ideal.ieee]

variable (m : (ℓ : Loc Cert.KernelIdeal.nD Cert.KernelIdeal.τ Cert.KernelIdeal.sig) → Buf (Elt Ideal) ℓ)

/-- Every query is a real. -/
theorem queries_real (h : Cert.Pre_KernelIdeal_finite_keys m) (c : Dev Cert.KernelIdeal.nD)
    (i : KernelIdeal.S20x300x16x32.Idx) : ∃ r : ℝ, KernelIdeal.Array.queries m c i = (r : EReal) := by
  have e := congrFun (h c).1 i
  have e' : BitVec.ofBool (decide (max (KernelIdeal.Array.queries m c i) (-(KernelIdeal.Array.queries m c i))
    < Ideal.ofBits .bf16 0x7F80#16)) = 1#1 := e
  rw [inf_bf16] at e'
  exact real_of_abs_lt_top _ (of_ofBool e')

/-- Every key code is a real. -/
theorem keys_real (h : Cert.Pre_KernelIdeal_finite_keys m) (c : Dev Cert.KernelIdeal.nD)
    (i : KernelIdeal.S20x2048x16x32.Idx) : ∃ r : ℝ, KernelIdeal.Array.keys m c i = (r : EReal) := by
  have e := congrFun (h c).2.1 i
  refine real_of_low_bits _ fun hz => ?_
  have e' : BitVec.ofBool (BitVec.signExtend 32 ((m (c.tc.loc KernelIdeal.main_arg1) : KernelIdeal.S20x2048x16x32.Idx → BitVec 8) i)
    &&& 127#32 != 127#32) = 1#1 := e
  rw [hz] at e'
  exact absurd e' (by decide)

/-- Every key scale is a real. -/
theorem keyScales_real (h : Cert.Pre_KernelIdeal_finite_keys m) (c : Dev Cert.KernelIdeal.nD)
    (i : KernelIdeal.S20x2048x16.Idx) : ∃ r : ℝ, KernelIdeal.Array.keyScales m c i = (r : EReal) := by
  have e := congrFun (h c).2.2 i
  have e' : BitVec.ofBool (decide (max (KernelIdeal.Array.keyScales m c i) (-(KernelIdeal.Array.keyScales m c i))
    < Ideal.ofBits .f32 0x7F800000#32)) = 1#1 := e
  rw [inf_f32] at e'
  exact real_of_abs_lt_top _ (of_ofBool e')

end Cert.FiniteKeys
-- ==== Proof.Equation.lean ====
/- The kernel's result and the reference's are the same array.

   With the queries, the key codes and the key scales real, every score is a real, the kernel's base-two exponent is
   that score over `log 2` (or `-∞` where the mask forbids it), and the two softmaxes agree entry by entry. -/
module

public import proofs.«01_k».proof.Proof.Precondition

@[expose] public section

noncomputable section

namespace Cert.FiniteKeys

open Cert.Attention
open Idealize.ShloMosaic Idealize.ShloMosaic.ValueIdx Idealize.ShloMosaic.TcCoe

/-- The reference's score scale as a real. -/
theorem scale_eq : (Ideal.ofBits .f32 0x3E3504F3#32 : EReal) = ((11863283 * 67108864⁻¹ : ℝ) : EReal) := by
  simp [Ideal.ofBits, Ideal.ieee, -EReal.coe_mul]
  norm_num

/-- One entry of the result: the kernel's quotient of sums is the reference's weighted sum. -/
theorem entry_eq (q : KernelIdeal.S20x300x16x32.Idx → EReal) (k v : KernelIdeal.S20x2048x16x32.Idx → EReal)
    (ks vs : KernelIdeal.S20x2048x16.Idx → EReal) (w : KernelIdeal.S20x300x64.Idx → BitVec 32)
    (hq : ∀ i, ∃ r : ℝ, q i = (r : EReal)) (hk : ∀ i, ∃ r : ℝ, k i = (r : EReal)) (hks : ∀ i, ∃ r : ℝ, ks i = (r : EReal))
    (b : Fin 20) (n : Fin 300) (h : Fin 16) (d : Fin 32) :
    Ideal.div
        (∑ p, (v (ix4 b p h d) * vs (ix3 b p h)) * Ideal.exp2 (KernelIdeal.Array.exponent q k ks w b h n p
          - Finset.univ.fold max ⊥ (KernelIdeal.Array.exponent q k ks w b h n)))
        (∑ p, Ideal.exp2 (KernelIdeal.Array.exponent q k ks w b h n p
          - Finset.univ.fold max ⊥ (KernelIdeal.Array.exponent q k ks w b h n)))
      = ∑ p, v (ix4 b p h d) * (Ideal.div
          (Ideal.exp (ReferenceIdeal.Entry.score w q ks k b h n p - Finset.univ.fold max ⊥ (ReferenceIdeal.Entry.score w q ks k b h n)))
          (∑ p, Ideal.exp (ReferenceIdeal.Entry.score w q ks k b h n p - Finset.univ.fold max ⊥ (ReferenceIdeal.Entry.score w q ks k b h n)))
          * vs (ix3 b p h)) := by
  choose q' hq using hq
  choose k' hk using hk
  choose ks' hks using hks
  refine attention_eq
    (fun p => (∑ e : Fin 32, q' (ix4 b n h e) * k' (ix4 b p h e)) * (ks' (ix3 b p h) * (11863283 * 67108864⁻¹)))
    (fun p => allowed (fun i => w (ix3 b n i)) p) (exists_allowed _) (fun p => v (ix4 b p h d)) (fun p => vs (ix3 b p h)) _ _ ?_ ?_
  · intro p
    unfold KernelIdeal.Array.exponent KernelIdeal.Head.scoreFactor
    congr 1
    simp only [hq, hk, hks, ← EReal.coe_mul, sum_coe]
    congr 1
    rw [Finset.sum_mul, Finset.sum_mul, Finset.sum_mul]
    refine Finset.sum_congr rfl fun e _ => ?_
    ring
  · intro p
    unfold ReferenceIdeal.Entry.score
    simp only [hq, hk, hks, scale_eq, ← EReal.coe_mul, sum_coe]

/-- The two results are equal on arguments that are. -/
theorem result_eq (m : (ℓ : Loc KernelIdeal.nD KernelIdeal.τ KernelIdeal.sig) → Buf (Elt Ideal) ℓ)
    (m' : (ℓ : Loc ReferenceIdeal.nD ReferenceIdeal.τ ReferenceIdeal.sig) → Buf (Elt Ideal) ℓ)
    (hpre : Cert.Pre_KernelIdeal_finite_keys m) (c : Dev KernelIdeal.nD)
    (h0 : (m' (c.tc.loc ReferenceIdeal.main_arg0) : KernelIdeal.S20x300x16x32.Idx → EReal) = m (c.tc.loc KernelIdeal.main_arg0))
    (h1 : (m' (c.tc.loc ReferenceIdeal.main_arg1) : KernelIdeal.S20x2048x16x32.Idx → BitVec 8) = m (c.tc.loc KernelIdeal.main_arg1))
    (h2 : (m' (c.tc.loc ReferenceIdeal.main_arg2) : KernelIdeal.S20x2048x16.Idx → EReal) = m (c.tc.loc KernelIdeal.main_arg2))
    (h3 : (m' (c.tc.loc ReferenceIdeal.main_arg3) : KernelIdeal.S20x2048x16x32.Idx → EReal) = m (c.tc.loc KernelIdeal.main_arg3))
    (h4 : (m' (c.tc.loc ReferenceIdeal.main_arg4) : KernelIdeal.S20x2048x16.Idx → EReal) = m (c.tc.loc KernelIdeal.main_arg4))
    (h5 : (m' (c.tc.loc ReferenceIdeal.main_arg5) : KernelIdeal.S20x300x64.Idx → BitVec 32) = m (c.tc.loc KernelIdeal.main_arg5)) :
    (ReferenceIdeal.Ref.result m' c : KernelIdeal.S20x300x512.Idx → EReal) = KernelIdeal.Value.G6 m c := by
  have hk : (ReferenceIdeal.Ref.reg_main_v1_0 m' c : KernelIdeal.S20x2048x16x32.Idx → EReal) = KernelIdeal.Array.keys m c := by
    rw [ReferenceIdeal.Region.keys_left]
    exact congrArg (bitcastToFloat (F := Ideal) .fp8e4m3) h1
  have hv : (ReferenceIdeal.Ref.reg_main_v1_1 m' c : KernelIdeal.S20x2048x16x32.Idx → EReal) = KernelIdeal.Array.values m c :=
    (ReferenceIdeal.Region.values_left m' c).trans h3
  have hr : (ReferenceIdeal.Ref.result m' c : KernelIdeal.S20x300x512.Idx → EReal)
      = ReferenceIdeal.Ops.val_main_v49 (F := Ideal) (KernelIdeal.Array.queries m c) (KernelIdeal.Array.keyScales m c)
          (KernelIdeal.Array.valueScales m c) (KernelIdeal.Array.maskWords m c) (KernelIdeal.Array.keys m c)
          (KernelIdeal.Array.values m c) := by
    unfold ReferenceIdeal.Ref.result
    rw [show m' (c.tc.loc ReferenceIdeal.main_arg0) = KernelIdeal.Array.queries m c from h0,
      show m' (c.tc.loc ReferenceIdeal.main_arg2) = KernelIdeal.Array.keyScales m c from h2,
      show m' (c.tc.loc ReferenceIdeal.main_arg4) = KernelIdeal.Array.valueScales m c from h4,
      show m' (c.tc.loc ReferenceIdeal.main_arg5) = KernelIdeal.Array.maskWords m c from h5,
      show ReferenceIdeal.Ref.reg_main_v1_0 m' c = KernelIdeal.Array.keys m c from hk,
      show ReferenceIdeal.Ref.reg_main_v1_1 m' c = KernelIdeal.Array.values m c from hv]
  rw [hr]
  funext j
  have hj : j = ix3 (j 0) (j 1) (KernelIdeal.Inputs.col ⟨(j 2).val / 32, by have := (j 2).isLt; change (j 2).val < 512 at this; omega⟩
      ⟨(j 2).val % 32, Nat.mod_lt _ (by decide)⟩) := by
    refine (eq_ix3 j).trans (congrArg (ix3 (j 0) (j 1)) (Fin.ext ?_))
    exact (Nat.div_add_mod _ 32).symm
  rw [hj]
  refine (ReferenceIdeal.Entry.result_apply _ _ _ _ _ _ _ _ _ _).trans ?_
  refine Eq.trans ?_ (KernelIdeal.Array.result_apply m c _ _ _ _ _ fun p => rfl).symm
  exact (entry_eq _ _ _ _ _ _ (queries_real m hpre c) (keys_real m hpre c) (keyScales_real m hpre c) _ _ _ _).symm

end Cert.FiniteKeys
-- ==== Proof.lean ====
/- The certificate: each program runs and leaves its arguments, the kernel's named constant is the one declared, and
   the kernel and the reference, over the extended reals, compute the same array. -/
module

public import proofs.«01_k».proof.Defs
public import proofs.«01_k».proof.Proof.Gen.Kernel.Frame
public import proofs.«01_k».proof.Proof.Gen.KernelIdeal.Frame
public import proofs.«01_k».proof.Proof.Gen.KernelIdeal.Value
public import proofs.«01_k».proof.Proof.Gen.ReferenceIdeal.Frame
public import proofs.«01_k».proof.Proof.Equation
public import proofs.«01_k».proof.Proof.Gen.Pre_finite_keys
public import Idealize.ShloMosaic.Adequacy
public import Idealize.ShloMosaic.Init

@[expose] public section

noncomputable section

namespace Cert.Proof

open Idealize.ShloMosaic Idealize.SL.Sem

/-- The kernel's named constant is the real its name stands for. -/
theorem preserves : Cert.preserves_Kernel_KernelIdeal :=
  IdealRules.named_const.statement Cert.KernelIdeal.κ "score_log2e" .f32 0x3E8293EE#32
    (((11863283 * 67108864⁻¹) * (Real.log 2)⁻¹ : ℝ) : EReal) rfl

/-- The kernel and the reference end with the same result. -/
theorem algebraic : Cert.algebraic_KernelIdeal_ReferenceIdeal_pre_finite_keys := by
  intro m g m' g' hpre hagree
  refine ⟨Cert.KernelIdeal.Value.G6 m, Cert.KernelIdeal.Value.run m g, ?_⟩
  refine (θ_run _ _ _).mono (fun r h c => ⟨(h c).1.trans ?_, (h c).2⟩) (Cert.ReferenceIdeal.Ref.run m' g')
  obtain ⟨h0, h1, h2, h3, h4, h5⟩ := hagree c
  exact Cert.FiniteKeys.result_eq m m' hpre c h0 h1 h2 h3 h4 h5

/-- Every claim. -/
theorem claim : Cert.Claim :=
  ⟨Cert.Kernel.Gen.facts, Cert.KernelIdeal.Gen.facts, Cert.ReferenceIdeal.Gen.facts, Cert.Pre_finite_keys.Gen.facts,
    fun m g _ => Cert.Kernel.Gen.frame m g, fun m g _ => Cert.KernelIdeal.Gen.frame m g, fun m g _ => Cert.KernelIdeal.Gen.frame m g,
    fun m g _ => Cert.ReferenceIdeal.Gen.frame m g, fun m g _ => Cert.ReferenceIdeal.Gen.frame m g, preserves, algebraic⟩

end Cert.Proof

end
